-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_to_pass [hPre_few_to_pass : Cert.Pre_few_to_pass.Facts] (m : (ℓ : Loc Cert.KernelIdeal.nD Cert.KernelIdeal.τ Cert.KernelIdeal.sig) → Buf (Elt Ideal) ℓ) : Prop :=
  ∀ c : Dev Cert.KernelIdeal.nD,
    (Cert.Pre_few_to_pass.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_to_pass [hPre_few_to_pass : Cert.Pre_few_to_pass.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_to_pass.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_few_to_pass [hKernelIdeal : Cert.KernelIdeal.Facts] [hPre_few_to_pass : Cert.Pre_few_to_pass.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_to_pass m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_few_to_pass [hReferenceIdeal : Cert.ReferenceIdeal.Facts] [hPre_few_to_pass : Cert.Pre_few_to_pass.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_to_pass m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_few_to_pass [hKernelIdeal : Cert.KernelIdeal.Facts] [hReferenceIdeal : Cert.ReferenceIdeal.Facts] [hPre_few_to_pass : Cert.Pre_few_to_pass.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_to_pass m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_few_to_pass : Cert.Pre_few_to_pass.Facts),
    quiescent_Kernel (hKernel := hKernel)
    ∧ quiescent_KernelIdeal (hKernelIdeal := hKernelIdeal)
    ∧ quiescent_KernelIdeal_pre_few_to_pass (hKernelIdeal := hKernelIdeal) (hPre_few_to_pass := hPre_few_to_pass)
    ∧ quiescent_ReferenceIdeal (hReferenceIdeal := hReferenceIdeal)
    ∧ quiescent_ReferenceIdeal_pre_few_to_pass (hReferenceIdeal := hReferenceIdeal) (hPre_few_to_pass := hPre_few_to_pass)
    ∧ preserves_Kernel_KernelIdeal
    ∧ algebraic_KernelIdeal_ReferenceIdeal_pre_few_to_pass (hKernelIdeal := hKernelIdeal) (hReferenceIdeal := hReferenceIdeal) (hPre_few_to_pass := hPre_few_to_pass)
-- ==== Pre_few_to_pass.lean ====
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S128 : Shape := ⟨1, ![128]⟩
abbrev S128x1 : Shape := ⟨2, ![128, 1]⟩

class Facts : Prop where
  bcast_S_S128x32768 : S_.BroadcastsInDim S128x32768 (![] : Fin 0 → Fin S128x32768.rank)
  bcast_S_S_ : S_.BroadcastsInDim S_ (![] : Fin 0 → Fin S_.rank)
  reduceWindows_S128x32768_S128x32768_w1s1p0_0_w32768s1p32767_0 : S128x32768.ReduceWindows (![1, 32768] : Fin 2 → Nat) ![1, 1] ![0, 32767] ![0, 0] S128x32768
  h_S_ : 0 < S_.numel
  bcast_S_S32768 : S_.BroadcastsInDim S32768 (![] : Fin 0 → Fin S32768.rank)
  bcast_S32768_S1x32768_1 : S32768.BroadcastsInDim S1x32768 (![1] : Fin 1 → Fin S1x32768.rank)
  bcast_S1x32768_S128x32768_0_1 : S1x32768.BroadcastsInDim S128x32768 (![0, 1] : Fin 2 → Fin S128x32768.rank)
  reducesTo_S128x32768_S128_d1 : S128x32768.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x32768_0_1 : S128x1.BroadcastsInDim S128x32768 (![0, 1] : Fin 2 → Fin S128x32768.rank)
  bcast_S_S128x1 : S_.BroadcastsInDim S128x1 (![] : Fin 0 → Fin S128x1.rank)
  shapeCasts_S128x1_S128 : S128x1.ShapeCasts S128

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S128x32768 .f32) : FVec F S128x32768 .f32 :=
  let v0 : FVec F S128x32768 .f32 := (fun x => Host.sort S128x32768 1 comparator_f32_d1 x) arg0
  v0

def fn_cumsum_0 {F : FTy → Type} [FloatOps F] (arg0 : FVec F S128x32768 .f32) : FVec F S128x32768 .f32 :=
  let cst : FVec F S_ .f32 := constant S_ .f32 0x00000000#32
  let v0 : FVec F S_ .f32 := broadcastInDim S_ ![] bcast_S_S_ cst
  let v1 : FVec F S128x32768 .f32 := (fun x v => Host.reduceWindowAdd ![1, 32768] ![1, 1] ![0, 32767] ![0, 0] x v reduceWindows_S128x32768_S128x32768_w1s1p0_0_w32768s1p32767_0 h_S_) arg0 v0
  v1

def fn_cumsum {F : FTy → Type} [FloatOps F] (arg0 : FVec F S128x32768 .f32) : FVec F S128x32768 .f32 :=
  let v0 : FVec F S128x32768 .f32 := fn_cumsum_0 (F := F) arg0
  v0

def fn_part2 {F : FTy → Type} [FloatOps F] (main_v1 : FVec F S128x32768 .f32) (main_v24 : IVec S128x32768 1) (main_v26 : FVec F S128x1 .f32) (main_v33 : FVec F S128 .f32) (main_v37 : FVec F S128 .f32) : IVec S128 1 :=
  let main_v38 : FVec F S128x1 .f32 := broadcastInDim S128x1 ![0] bcast_S128_S128x1_0 main_v37
  let main_v39 : FVec F S128x32768 .f32 := broadcastInDim S128x32768 ![0, 1] bcast_S128x1_S128x32768_0_1 main_v38
  let main_v40 : IVec S128x32768 1 := cmpf .ogt main_v1 main_v39
  let main_v41 : IVec S128x32768 1 := andi main_v24 main_v40
  let main_v42 : FVec F S128x32768 .f32 := uitofp .f32 main_v41
  let main_cst_9 : FVec F S_ .f32 := constant S_ .f32 0x00000000#32
  let main_v43 : FVec F S128 .f32 := (fun x v => Host.reduceAdd x v reducesTo_S128x32768_S128_d1 h_S_) main_v42 main_cst_9
  let main_v44 : FVec F S128 .f32 := shapeCast S128 main_v26 shapeCasts_S128x1_S128
  let main_cst_10 : FVec F S_ .f32 := constant S_ .f32 0x7F800000#32
  let main_v45 : FVec F S128 .f32 := broadcastInDim S128 ![] bcast_S_S128 main_cst_10
  let main_v46 : IVec S128 1 := cmpf .olt main_v44 main_v45
  let main_cst_11 : FVec F S_ .f32 := constant S_ .f32 0x41B80000#32
  let main_v47 : FVec F S128 .f32 := broadcastInDim S128 ![] bcast_S_S128 main_cst_11
  let main_v48 : IVec S128 1 := cmpf .ole main_v33 main_v47
  let main_cst_12 : FVec F S_ .f32 := constant S_ .f32 0x40E00000#32
  let main_v49 : FVec F S128 .f32 := broadcastInDim S128 ![] bcast_S_S128 main_cst_12
  let main_v50 : IVec S128 1 := cmpf .ole main_v43 main_v49
  let main_v51 : IVec S128 1 := ori main_v48 main_v50
  let main_v52 : IVec S128 1 := andi main_v46 main_v51
  main_v52

def fn_part1 {F : FTy → Type} [FloatOps F] (main_arg0 : FVec F S128x32768 .f32) (main_v1 : FVec F S128x32768 .f32) (main_v16 : FVec F S128 .f32) (main_v18 : FVec F S128 .f32) : IVec S128 1 :=
  let main_cst_4 : FVec F S_ .f32 := constant S_ .f32 0x3F800000#32
  let main_v19 : FVec F S128 .f32 := broadcastInDim S128 ![] bcast_S_S128 main_cst_4
  let main_v20 : FVec F S128 .f32 := subf main_v18 main_v19
  let main_v21 : FVec F S128 .f32 := Host.divf main_v20 main_v16
  let main_v22 : FVec F S128x1 .f32 := broadcastInDim S128x1 ![0] bcast_S128_S128x1_0 main_v21
  let main_v23 : FVec F S128x32768 .f32 := broadcastInDim S128x32768 ![0, 1] bcast_S128x1_S128x32768_0_1 main_v22
  let main_v24 : IVec S128x32768 1 := cmpf .ole main_v1 main_v23
  let main_cst_5 : FVec F S_ .f32 := constant S_ .f32 0xFF800000#32
  let main_v25 : FVec F S128 .f32 := (fun x v => Host.reduce FloatOps.maximumf x v reducesTo_S128x32768_S128_d1 h_S_) main_arg0 main_cst_5
  let main_v26 : FVec F S128x1 .f32 := broadcastInDim S128x1 ![0] bcast_S128_S128x1_0 main_v25
  let main_cst_6 : FVec F S_ .f32 := constant S_ .f32 0x3F000000#32
  let main_v27 : FVec F S128x1 .f32 := broadcastInDim S128x1 ![] bcast_S_S128x1 main_cst_6
  let main_v28 : FVec F S128x1 .f32 := subf main_v26 main_v27
  let main_v29 : FVec F S128x32768 .f32 := broadcastInDim S128x32768 ![0, 1] bcast_S128x1_S128x32768_0_1 main_v28
  let main_v30 : IVec S128x32768 1 := cmpf .ogt main_arg0 main_v29
  let main_v31 : IVec S128x32768 1 := andi main_v24 main_v30
  let main_v32 : FVec F S128x32768 .f32 := uitofp .f32 main_v31
  let main_cst_7 : FVec F S_ .f32 := constant S_ .f32 0x00000000#32
  let main_v33 : FVec F S128 .f32 := (fun x v => Host.reduceAdd x v reducesTo_S128x32768_S128_d1 h_S_) main_v32 main_cst_7
  let main_v34 : FVec F S128 .f32 := mulf main_v16 main_v16
  let main_cst_8 : FVec F S_ .f32 := constant S_ .f32 0x3E800000#32
  let main_v35 : FVec F S128 .f32 := broadcastInDim S128 ![] bcast_S_S128 main_cst_8
  let main_v36 : FVec F S128 .f32 := Host.divf main_v35 main_v34
  let main_v37 : FVec F S128 .f32 := subf main_v21 main_v36
  fn_part2 (F := F) main_v1 main_v24 main_v26 main_v33 main_v37

def fn {F : FTy → Type} [FloatOps F] (main_arg0 : FVec F S128x32768 .f32) : IVec S128 1 :=
  let main_cst : FVec F S_ .f32 := constant S_ .f32 0x40000000#32
  let main_v0 : FVec F S128x32768 .f32 := broadcastInDim S128x32768 ![] bcast_S_S128x32768 main_cst
  let main_v1 : FVec F S128x32768 .f32 := mulf main_v0 main_arg0
  let main_v2 : FVec F S128x32768 .f32 := Host.negf main_v1
  let main_v3 : FVec F S128x32768 .f32 := fn_sort (F := F) main_v2
  let main_v4 : FVec F S128x32768 .f32 := Host.negf main_v3
  let main_v5 : FVec F S128x32768 .f32 := fn_cumsum (F := F) main_v4
  let main_v6 : FVec F S32768 .f32 := sitofp .f32 (iotaInDim S32768 32 0)
  let main_cst_0 : FVec F S_ .f32 := constant S_ .f32 0x3F800000#32
  let main_v7 : FVec F S32768 .f32 := broadcastInDim S32768 ![] bcast_S_S32768 main_cst_0
  let main_v8 : FVec F S32768 .f32 := addf main_v7 main_v6
  let main_v9 : FVec F S1x32768 .f32 := broadcastInDim S1x32768 ![1] bcast_S32768_S1x32768_1 main_v8
  let main_v10 : FVec F S128x32768 .f32 := broadcastInDim S128x32768 ![0, 1] bcast_S1x32768_S128x32768_0_1 main_v9
  let main_v11 : FVec F S128x32768 .f32 := mulf main_v10 main_v4
  let main_cst_1 : FVec F S_ .f32 := constant S_ .f32 0x3F800000#32
  let main_v12 : FVec F S128x32768 .f32 := broadcastInDim S128x32768 ![] bcast_S_S128x32768 main_cst_1
  let main_v13 : FVec F S128x32768 .f32 := addf main_v12 main_v11
  let main_v14 : IVec S128x32768 1 := cmpf .ogt main_v13 main_v5
  let main_v15 : FVec F S128x32768 .f32 := uitofp .f32 main_v14
  let main_cst_2 : FVec F S_ .f32 := constant S_ .f32 0x00000000#32
  let main_v16 : FVec F S128 .f32 := (fun x v => Host.reduceAdd x v reducesTo_S128x32768_S128_d1 h_S_) main_v15 main_cst_2
  let main_v17 : FVec F S128x32768 .f32 := mulf main_v15 main_v4
  let main_cst_3 : FVec F S_ .f32 := constant S_ .f32 0x00000000#32
  let main_v18 : FVec F S128 .f32 := (fun x v => Host.reduceAdd x v reducesTo_S128x32768_S128_d1 h_S_) main_v17 main_cst_3
  fn_part1 (F := F) main_arg0 main_v1 main_v16 main_v18
-- ==== Kernel.lean ====
abbrev S128x32768 : Shape := ⟨2, ![128, 32768]⟩
abbrev S32x32768 : Shape := ⟨2, ![32, 32768]⟩
abbrev S32x512 : Shape := ⟨2, ![32, 512]⟩
abbrev S32 : Shape := ⟨1, ![32]⟩
abbrev S32x1 : Shape := ⟨2, ![32, 1]⟩
abbrev S1x32x1 : Shape := ⟨3, ![1, 32, 1]⟩
abbrev S1 : Shape := ⟨1, ![1]⟩
abbrev S1x1x1 : Shape := ⟨3, ![1, 1, 1]⟩
abbrev S32x1024 : Shape := ⟨2, ![32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S128 : Shape := ⟨1, ![128]⟩
abbrev S128x1 : Shape := ⟨2, ![128, 1]⟩

abbrev nBuf : Space → Nat
  | .hbm => 37
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S_, .f32⟩
  | .hbm, ⟨2, _⟩ => ⟨S128x32768, .f32⟩
  | .hbm, ⟨3, _⟩ => ⟨S128x32768, .f32⟩
  | .hbm, ⟨4, _⟩ => ⟨S128x32768, .f32⟩
  | .hbm, ⟨5, _⟩ => ⟨S128x32768, .f32⟩
  | .hbm, ⟨6, _⟩ => ⟨S128x32768, .f32⟩
  | .hbm, ⟨7, _⟩ => ⟨S_, .f32⟩
  | .hbm, ⟨8, _⟩ => ⟨S_, .f32⟩
  | .hbm, ⟨9, _⟩ => ⟨S128x32768, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S1x32768, .f32⟩
  | .hbm, ⟨15, _⟩ => ⟨S128x32768, .f32⟩
  | .hbm, ⟨16, _⟩ => ⟨S128x32768, .f32⟩
  | .hbm, ⟨17, _⟩ => ⟨S_, .f32⟩
  | .hbm, ⟨18, _⟩ => ⟨S128x32768, .f32⟩
  | .hbm, ⟨19, _⟩ => ⟨S128x32768, .f32⟩
  | .hbm, ⟨20, _⟩ => ⟨S128x32768, .i1⟩
  | .hbm, ⟨21, _⟩ => ⟨S128x32768, .f32⟩
  | .hbm, ⟨22, _⟩ => ⟨S_, .f32⟩
  | .hbm, ⟨23, _⟩ => ⟨S128, .f32⟩
  | .hbm, ⟨24, _⟩ => ⟨S128x32768, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x32768, .f32⟩
  | .hbm, ⟨33, _⟩ => ⟨S128x32768, .f32⟩
  | .hbm, ⟨34, _⟩ => ⟨S_, .f32⟩
  | .hbm, ⟨35, _⟩ => ⟨S128x32768, .f32⟩
  | .hbm, ⟨36, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call1_call0_cst : Ref sig .tc := ⟨.hbm, 7, rfl⟩
abbrev main_call1_call0_v0 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Strips.lean ====
/-
  The kernel's three passes over a block of 32 rows of 32768 lanes, written once as recursions on the strip number, at any
  signature and any label table: the row maxima over 64 strips of 512 lanes, one Newton step's masked sums over the same
  strips, and the result's 32 strips of 1024 lanes. Each comes with the values it computes (`maxV`, `accV`, `outV`) and with
  the triple that says so, proved by induction on the strips still to run. The loop between them is written as the
  function of its own label (`loopProg`) and met by a specification at the trips its counter still allows (`loop_spec`),
  so that the whole block (`blockProg`) has one triple (`block_spec`), which both printed programs use.
-/
module

public import Idealize.ShloMosaic.Lib.Pipeline.FrameBody
public import Idealize.ShloMosaic.Lib.Tactic

@[expose] public section

noncomputable section

namespace Cert.Proof.Strips

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Shapes and rectangles -/

/-- A block of rows, a strip of 512 lanes, a strip of 1024 lanes, one number a row in its two layouts. -/
abbrev SB : Shape := ⟨2, ![32, 32768]⟩
abbrev SS : Shape := ⟨2, ![32, 512]⟩
abbrev SO : Shape := ⟨2, ![32, 1024]⟩
abbrev SR : Shape := ⟨1, ![32]⟩
abbrev SC : Shape := ⟨2, ![32, 1]⟩

/-- Strip `n` of 512 lanes lies inside the block. -/
theorem inS {n : ℕ} (h : n < 64) : ∀ a, (![0, 512 * n] : Fin 2 → Nat) a + SS.size a ≤ SB.size a := by
  intro a
  match a with
  | ⟨0, _⟩ => show 0 + 32 ≤ 32; omega
  | ⟨1, _⟩ => show 512 * n + 512 ≤ 32768; omega

/-- Strip `n` of 1024 lanes lies inside the block. -/
theorem inO {n : ℕ} (h : n < 32) : ∀ a, (![0, 1024 * n] : Fin 2 → Nat) a + SO.size a ≤ SB.size a := by
  intro a
  match a with
  | ⟨0, _⟩ => show 0 + 32 ≤ 32; omega
  | ⟨1, _⟩ => show 1024 * n + 1024 ≤ 32768; omega

/-- Strip `n` of 512 lanes, and strip `n` of 1024 lanes. -/
abbrev rS (n : ℕ) (h : n < 64) : Rect SB := Rect.unit (s := SB) ![0, 512 * n] SS.size (inS h)
abbrev rO (n : ℕ) (h : n < 32) : Rect SB := Rect.unit (s := SB) ![0, 1024 * n] SO.size (inO h)

theorem hS : 0 < SS.numel := by decide
theorem hO : 0 < SO.numel := by decide
theorem redS : SS.Reduces [1] SR := by decide
theorem castR : SR.ShapeCasts SC := by decide
theorem bcS : SC.Broadcasts SS := by decide
theorem bcO : SC.Broadcasts SO := by decide
theorem cast3 : SC.ShapeCasts ⟨3, ![1, 32, 1]⟩ := by decide
theorem red3 : (⟨3, ![1, 32, 1]⟩ : Shape).Reduces [1, 2] ⟨1, ![1]⟩ := by decide
theorem cast1 : (⟨1, ![1]⟩ : Shape).ShapeCasts ⟨3, ![1, 1, 1]⟩ := by decide
theorem in1 : ∀ a, (![0, 0, 0] : Fin 3 → Nat) a < (⟨3, ![1, 1, 1]⟩ : Shape).size a := by decide

variable {F : FTy → Type} [FloatOps F]

/-- What a load of strip `n` reads of a block. -/
abbrev ldS (x : FVec F SB .f32) (n : ℕ) (h : n < 64) : FVec F SS .f32 := View.ld (Val := Elt F) (e' := .f32) x (rS n h)
abbrev ldO (x : FVec F SB .f32) (n : ℕ) (h : n < 32) : FVec F SO .f32 := View.ld (Val := Elt F) (e' := .f32) x (rO n h)

/-! ## What the passes compute -/

/-- The lane-by-lane maximum of `acc` and the strips `n, …, n + k - 1` of `x`. -/
def maxV (x : FVec F SB .f32) : (k n : ℕ) → n + k ≤ 64 → FVec F SS .f32 → FVec F SS .f32
  | 0, _, _, acc => acc
  | k + 1, n, h, acc => maxV x k (n + 1) (by omega) (maximumf acc (ldS x n (by omega)))

/-- Where a strip exceeds its row's threshold. -/
def above (t : FVec F SC .f32) (v : FVec F SS .f32) : IVec SS 1 := cmpf .ogt v (broadcastTo SS t bcS)

/-- The strip's entries above the threshold, zero elsewhere, added to a running sum; -/
def addSum (t : FVec F SC .f32) (s v : FVec F SS .f32) : FVec F SS .f32 :=
  addf s (select (above t v) v (broadcast SS (Scalar.ofBits .f32 0x00000000#32)))

/-- and one for each of them, zero elsewhere, added to a running count. -/
def addCnt (t : FVec F SC .f32) (c v : FVec F SS .f32) : FVec F SS .f32 :=
  addf c (select (above t v) (broadcast SS (Scalar.ofBits .f32 0x3F800000#32)) (broadcast SS (Scalar.ofBits .f32 0x00000000#32)))

/-- The running sum and count after the strips `n, …, n + k - 1` of `x`. -/
def accV (x : FVec F SB .f32) (t : FVec F SC .f32) : (k n : ℕ) → n + k ≤ 64 → FVec F SS .f32 × FVec F SS .f32 → FVec F SS .f32 × FVec F SS .f32
  | 0, _, _, a => a
  | k + 1, n, h, a =>
    accV x t k (n + 1) (by omega) (addSum t a.1 (ldS x n (by omega)), addCnt t a.2 (ldS x n (by omega)))

/-- A strip of zeros. -/
def zeroS : FVec F SS .f32 := broadcast SS (Scalar.ofBits .f32 0x00000000#32)

/-- Each row's first threshold: its maximum, less a half. -/
def startOf (acc : FVec F SS .f32) : FVec F SC .f32 :=
  subf (shapeCast SC (multiReduction .maximumf [1] SR acc 0xFF800000#32 redS (.inl rfl) rfl) castR)
    (broadcast SC (Scalar.ofBits .f32 0x3F000000#32))

/-- The number the loop is told the threshold was before: one below the first. -/
def prevOf (t : FVec F SC .f32) : FVec F SC .f32 := subf t (broadcast SC (Scalar.ofBits .f32 0x3F800000#32))

/-- Each row's next threshold, from the lanes' sums and counts: their total less a half, over their total count. -/
def nextOf (a : FVec F SS .f32 × FVec F SS .f32) : FVec F SC .f32 :=
  divf (subf (shapeCast SC (multiReduction .add [1] SR a.1 0x00000000#32 redS (.inl rfl) rfl) castR)
      (broadcast SC (Scalar.ofBits .f32 0x3F000000#32)))
    (shapeCast SC (multiReduction .add [1] SR a.2 0x00000000#32 redS (.inl rfl) rfl) castR)

/-- Whether some row's threshold moved: the greatest over the rows of one where it did and zero where not, above zero. -/
def moved (tp t : FVec F SC .f32) : BitVec 1 :=
  Scalar.cmpf .ogt (extractAt ![0, 0, 0]
    (shapeCast ⟨3, ![1, 1, 1]⟩ (multiReduction .maximumf [1, 2] ⟨1, ![1]⟩
      (shapeCast ⟨3, ![1, 32, 1]⟩ (select (cmpf .one tp t) (broadcast SC (Scalar.ofBits .f32 0x3F800000#32))
        (broadcast SC (Scalar.ofBits .f32 0x00000000#32))) cast3) 0xFF800000#32 red3 (.inl rfl) rfl) cast1) in1)
    (Scalar.ofBits .f32 0x00000000#32 : F .f32)

/-- The loop's test: fewer than 24 trips run, and some row's threshold moved. -/
def test (j : BitVec 32) (tp t : FVec F SC .f32) : BitVec 1 := Scalar.andi (Scalar.cmpi .slt j 24#32) (moved tp t)

/-- One Newton step of every row. -/
def stepV (x : FVec F SB .f32) (t : FVec F SC .f32) : FVec F SC .f32 := nextOf (accV x t 64 0 (by omega) (zeroS, zeroS))

/-- What the loop carries out, entered at counter `j` and thresholds `tp`, `t`, with at most `k` trips to run. -/
def loopV (x : FVec F SB .f32) : ℕ → BitVec 32 → FVec F SC .f32 → FVec F SC .f32 → BitVec 32 × FVec F SC .f32 × FVec F SC .f32
  | 0, j, tp, t => (j, tp, t)
  | k + 1, j, tp, t => if test j tp t = 1#1 then loopV x k (Scalar.addi j 1#32) t (stepV x t) else (j, tp, t)

/-- Each row's first threshold, from the block. -/
def startV (x : FVec F SB .f32) : FVec F SC .f32 :=
  startOf (maxV x 64 0 (by omega) (broadcast SS (Scalar.ofBits .f32 0xFF800000#32)))

/-- Each row's last threshold. -/
def lastV (x : FVec F SB .f32) : FVec F SC .f32 := (loopV x 24 0#32 (prevOf (startV x)) (startV x)).2.2

/-- A result strip: twice the part of the strip above its row's threshold. -/
def payO (t : FVec F SC .f32) (v : FVec F SO .f32) : FVec F SO .f32 :=
  mulf (broadcast SO (Scalar.ofBits .f32 0x40000000#32))
    (maximumf (subf v (broadcastTo SO t bcO)) (broadcast SO (Scalar.ofBits .f32 0x00000000#32)))

/-- The index, in the column of the rows' numbers, of an entry's row. -/
def rowOf (y : SB.Idx) : SC.Idx := fun a => match a with
  | ⟨0, _⟩ => y 0
  | ⟨1, _⟩ => (0 : Fin 1)

/-- The whole result block at thresholds `t`. -/
def outAt (x : FVec F SB .f32) (t : FVec F SC .f32) : FVec F SB .f32 := fun y =>
  FloatOps.mulf (Scalar.ofBits .f32 0x40000000#32)
    (FloatOps.maximumf (FloatOps.subf (x y) (t (rowOf y))) (Scalar.ofBits .f32 0x00000000#32))

/-- The whole result block. -/
def outV (x : FVec F SB .f32) : FVec F SB .f32 := outAt x (lastV x)

/-- A strip's result is the block's result, read at the strip. -/
theorem payO_eq (x : FVec F SB .f32) (t : FVec F SC .f32) (n : ℕ) (h : n < 32) :
    payO t (ldO x n h) = ldO (outAt x t) n h := by
  funext j
  have hb : broadcastTo SO t bcO j = t (rowOf ((rO n h).idx j)) := by
    unfold broadcastTo
    congr 1
    funext a
    match a with
    | ⟨0, _⟩ => exact Fin.ext (by show (j 0).val = 0 + 1 * (j 0).val; omega)
    | ⟨1, _⟩ => rfl
  show FloatOps.mulf _ (FloatOps.maximumf (FloatOps.subf _ (broadcastTo SO t bcO j)) _) = _
  rw [hb]
  rfl

/-! ## The passes as programs -/

variable {nD : ℕ} {τ : Topo} {sig : RefSig} {Λ : Labels}

section Programs

variable (a1 a2 : Memref sig .tc .vmem SB .f32)

/-- Load the strips `n, …, n + k - 1` and take the running maximum. -/
def maxProg : (k n : ℕ) → n + k ≤ 64 → FVec F SS .f32 → Prog (TpuEff nD τ sig (Elt F) Λ .tc) (FVec F SS .f32)
  | 0, _, _, acc => pure acc
  | k + 1, n, h, acc => do
    let v : Vec F SS .f32 ← Prog.lift (.load a1 (rS n (by omega)).toLoadRect (View.loadsAt_vmem hS))
    maxProg k (n + 1) (by omega) (maximumf acc v)

/-- Load the strips `n, …, n + k - 1` and run the masked sum and count. -/
def accProg (t : FVec F SC .f32) : (k n : ℕ) → n + k ≤ 64 → FVec F SS .f32 × FVec F SS .f32 →
    Prog (TpuEff nD τ sig (Elt F) Λ .tc) (FVec F SS .f32 × FVec F SS .f32)
  | 0, _, _, a => pure a
  | k + 1, n, h, a => do
    let v : Vec F SS .f32 ← Prog.lift (.load a1 (rS n (by omega)).toLoadRect (View.loadsAt_vmem hS))
    accProg t k (n + 1) (by omega) (addSum t a.1 v, addCnt t a.2 v)

/-- Load the strips `n, …, n + k - 1` and store their results. -/
def outProg (t : FVec F SC .f32) : (k n : ℕ) → n + k ≤ 32 → Prog (TpuEff nD τ sig (Elt F) Λ .tc) PUnit
  | 0, _, _ => pure ⟨⟩
  | k + 1, n, h => do
    let v : Vec F SO .f32 ← Prog.lift (.load a1 (rO n (by omega)).toLoadRect (View.loadsAt_vmem hO))
    let _w : Vec F SO .f32 ← Prog.lift (.load a2 (rO n (by omega)).toLoadRect (View.loadsAt_vmem hO))
    Prog.lift (.store a2 (rO n (by omega)) (payO t v) Finset.univ (View.stores_vmem_bits_univ hO rfl) (.inl rfl))
    outProg t k (n + 1) (by omega)

/-- The strips' maximum in two stretches; -/
theorem maxProg_append (kk k k' n m : ℕ) (hk : kk = k + k') (hm : n + k = m) (h : n + kk ≤ 64) (acc : FVec F SS .f32) :
    (maxProg a1 kk n h acc : Prog (TpuEff nD τ sig (Elt F) Λ .tc) _)
      = maxProg a1 k n (by omega) acc >>= fun acc => maxProg a1 k' m (by omega) acc := by
  induction k generalizing kk n acc with
  | zero => obtain rfl : kk = k' := by omega
            obtain rfl : n = m := by omega
            rfl
  | succ k ih => obtain ⟨kk, rfl⟩ : ∃ l, kk = l + 1 := ⟨kk - 1, by omega⟩
                 simp only [maxProg, bind_assoc]
                 exact bind_congr fun v => ih kk (n + 1) (by omega) (by omega) (by omega) _

/-- and the strips' results likewise. -/
theorem outProg_append (t : FVec F SC .f32) (kk k k' n m : ℕ) (hk : kk = k + k') (hm : n + k = m) (h : n + kk ≤ 32) :
    (outProg a1 a2 t kk n h : Prog (TpuEff nD τ sig (Elt F) Λ .tc) _)
      = outProg a1 a2 t k n (by omega) >>= fun _ => outProg a1 a2 t k' m (by omega) := by
  induction k generalizing kk n with
  | zero => obtain rfl : kk = k' := by omega
            obtain rfl : n = m := by omega
            rfl
  | succ k ih => obtain ⟨kk, rfl⟩ : ∃ l, kk = l + 1 := ⟨kk - 1, by omega⟩
                 simp only [outProg, bind_assoc]
                 exact bind_congr fun v => bind_congr fun w => bind_congr fun u => ih kk (n + 1) (by omega) (by omega) (by omega)

variable (loop : Λ.Label) (mk : BitVec 32 → FVec F SC .f32 → FVec F SC .f32 → Λ.Args loop)
  (tup : BitVec 32 × FVec F SC .f32 × FVec F SC .f32 → Λ.Result loop)
  (get : Λ.Result loop → BitVec 32 × FVec F SC .f32 × FVec F SC .f32)

/-- The loop's function: the test, one step of every row, and its own call. -/
def loopProg (j : BitVec 32) (tp t : FVec F SC .f32) : Prog (TpuEff nD τ sig (Elt F) Λ .tc) (Λ.Result loop) :=
  if test j tp t = 1#1 then do
    let a ← accProg a1 t 64 0 (by omega) (zeroS, zeroS)
    Prog.lift (.call loop (mk (Scalar.addi j 1#32) t (nextOf a)))
  else pure (tup (j, tp, t))

/-- The block's function. -/
def blockProg : Prog (TpuEff nD τ sig (Elt F) Λ .tc) PUnit := do
  let acc ← maxProg a1 64 0 (by omega) (broadcast SS (Scalar.ofBits .f32 0xFF800000#32))
  let r ← Prog.lift (.call loop (mk 0#32 (prevOf (startOf acc)) (startOf acc)))
  outProg a1 a2 (get r).2.2 32 0 (by omega)

end Programs

/-! ## Their triples -/

section Triples

variable {Ix : Type} [DecidableEq Ix] {Name : Type} [DecidableEq Name] {U : Type} [URA U] {Lvl : Type} [Preorder Lvl]
variable (defs : Defs nD τ sig (Elt F) Λ) (c : Dev nD) (bd : Option ℕ) (E : Set Name)
variable (a1 a2 : Memref sig .tc .vmem SB .f32)

local notation "𝕄" => MT nD τ sig Ix (Elt F) Name U Lvl

/-- The strips' maximum runs on any share of the block and returns `maxV` of what the block reads. -/
theorem max_spec (q : PosShare TreeShare) (f : Buf (Elt F) (a1.view.loc (c : Thread nD τ))) :
    ∀ (k n : ℕ) (h : n + k ≤ 64) (acc : FVec F SS .f32) (Q : FVec F SS .f32 → sProp 𝕄),
      iprop((a1.view.loc (c : Thread nD τ) ↦[a1.view.set]{q} f)
        ∗ ((a1.view.loc (c : Thread nD τ) ↦[a1.view.set]{q} f) -∗ Q (maxV (a1.view.read (Elt F) f) k n h acc)))
      ⊢ wp frame (wpE defs Variants.nat (c : Thread nD τ) bd) E (maxProg a1 k n h acc) Q := by
  intro k
  induction k with
  | zero =>
    intro n h acc Q
    unfold maxProg maxV
    rw [Prog.pure_eq_ret, wp_ret]
    iintro ⟨H, Hk⟩
    imodintro
    iapply Hk $$ H
  | succ k ih =>
    intro n h acc Q
    unfold maxProg maxV
    simp only [Prog.lift, Prog.bind_op, Prog.bind_ret]
    iintro ⟨H, Hk⟩
    iapply (wp_load Variants.nat (c : Thread nD τ) bd E (m := a1) (View.setOn_subset_set _ _)) $$ H
    iintro H
    iapply ih
    isplitl [H]; · iexact H
    iexact Hk

/-- The strips' sums and counts run on any share of the block and return `accV` of what the block reads. -/
theorem acc_spec (q : PosShare TreeShare) (f : Buf (Elt F) (a1.view.loc (c : Thread nD τ))) (t : FVec F SC .f32) :
    ∀ (k n : ℕ) (h : n + k ≤ 64) (a : FVec F SS .f32 × FVec F SS .f32) (Q : FVec F SS .f32 × FVec F SS .f32 → sProp 𝕄),
      iprop((a1.view.loc (c : Thread nD τ) ↦[a1.view.set]{q} f)
        ∗ ((a1.view.loc (c : Thread nD τ) ↦[a1.view.set]{q} f) -∗ Q (accV (a1.view.read (Elt F) f) t k n h a)))
      ⊢ wp frame (wpE defs Variants.nat (c : Thread nD τ) bd) E (accProg a1 t k n h a) Q := by
  intro k
  induction k with
  | zero =>
    intro n h a Q
    unfold accProg accV
    rw [Prog.pure_eq_ret, wp_ret]
    iintro ⟨H, Hk⟩
    imodintro
    iapply Hk $$ H
  | succ k ih =>
    intro n h a Q
    unfold accProg accV
    simp only [Prog.lift, Prog.bind_op, Prog.bind_ret]
    iintro ⟨H, Hk⟩
    iapply (wp_load Variants.nat (c : Thread nD τ) bd E (m := a1) (View.setOn_subset_set _ _)) $$ H
    iintro H
    iapply ih
    isplitl [H]; · iexact H
    iexact Hk

/-- Storing strip `n`'s values of a block `G` over a buffer that reads `G` on the lanes before strip `n` leaves one that
    reads `G` on the lanes before strip `n + 1`. -/
theorem read_store (f : a2.view.ty.Contents (Elt F)) (G : FVec F SB .f32) (n : ℕ) (h : n < 32)
    (hf : ∀ y : SB.Idx, (y 1).val < 1024 * n → a2.view.read (Elt F) f y = G y) (y : SB.Idx) (hy : (y 1).val < 1024 * (n + 1)) :
    a2.view.read (Elt F) ((a2.access (rO n h) : View sig .tc _ _ _).write (Elt F) f (ldO G n h) Finset.univ) y = G y := by
  by_cases hm : y ∈ (rO n h).set
  · obtain ⟨x, rfl⟩ : ∃ x, (rO n h).emb x = y := (rO n h).exists_idx_of_mem hm
    exact View.read_slice_write_emb (rO n h) f _ (Finset.mem_univ x)
  · have hlt : (y 1).val < 1024 * n := by
      by_contra hge
      refine hm ((Rect.mem_set_unit).2 fun a => ?_)
      match a with
      | ⟨0, _⟩ => exact ⟨Nat.zero_le _, by have : (y 0).val < 32 := (y 0).isLt; show (y 0).val < 0 + 32; omega⟩
      | ⟨1, _⟩ => exact ⟨by show 1024 * n ≤ (y 1).val; omega, by show (y 1).val < 1024 * n + 1024; omega⟩
    refine (View.read_slice_write_of_not_mem (rO n h) f _ _ ?_).trans (hf y hlt)
    rwa [Rect.map_emb_univ]

/-- The strips' results, stored one after the other: the result's buffer ends reading `outAt` on every lane reached. -/
theorem out_spec (f : Buf (Elt F) (a1.view.loc (c : Thread nD τ))) (t : FVec F SC .f32) :
    ∀ (k n : ℕ) (h : n + k ≤ 32) (g : Buf (Elt F) (a2.view.loc (c : Thread nD τ))) (Q : PUnit → sProp 𝕄),
      (∀ y : SB.Idx, (y 1).val < 1024 * n → a2.view.read (Elt F) g y = outAt (a1.view.read (Elt F) f) t y) →
      iprop((a1.view.loc (c : Thread nD τ) ↦[a1.view.set]{fullShare} f) ∗ (a2.view.loc (c : Thread nD τ) ↦[a2.view.set]{fullShare} g)
        ∗ ((a1.view.loc (c : Thread nD τ) ↦[a1.view.set]{fullShare} f)
          -∗ (∃ g' : Buf (Elt F) (a2.view.loc (c : Thread nD τ)),
              ⌜∀ y : SB.Idx, (y 1).val < 1024 * (n + k) → a2.view.read (Elt F) g' y = outAt (a1.view.read (Elt F) f) t y⌝
              ∗ (a2.view.loc (c : Thread nD τ) ↦[a2.view.set]{fullShare} g'))
          -∗ Q ⟨⟩))
      ⊢ wp frame (wpE defs Variants.nat (c : Thread nD τ) bd) E (outProg a1 a2 t k n h) Q := by
  intro k
  induction k with
  | zero =>
    intro n h g Q hg
    unfold outProg
    rw [Prog.pure_eq_ret, wp_ret]
    iintro ⟨H, G, Hk⟩
    imodintro
    iapply Hk $$ H
    iexists g
    isplitr; · ipureintro; exact hg
    iexact G
  | succ k ih =>
    intro n h g Q hg
    have hn : n < 32 := by omega
    have h' : n + 1 + k ≤ 32 := by omega
    have hg' : ∀ y : SB.Idx, (y 1).val < 1024 * (n + 1) →
        a2.view.read (Elt F) ((a2.access (rO n hn) : View sig .tc _ _ _).write (Elt F) g
          (payO t (ldO (a1.view.read (Elt F) f) n hn)) Finset.univ) y = outAt (a1.view.read (Elt F) f) t y := by
      intro y hy
      rw [payO_eq]
      exact read_store a2 g _ n hn hg y hy
    unfold outProg
    simp only [Prog.lift, Prog.bind_op, Prog.bind_ret]
    iintro ⟨H, G, Hk⟩
    iapply (wp_load Variants.nat (c : Thread nD τ) bd E (m := a1) (View.setOn_subset_set _ _)) $$ H
    iintro H
    iapply (wp_load Variants.nat (c : Thread nD τ) bd E (m := a2) (View.setOn_subset_set _ _)) $$ G
    iintro G
    iapply (wp_store Variants.nat (c : Thread nD τ) bd E (m := a2) (r := rO n hn) (Mk := Finset.univ) (S := a2.view.set) (f := g)
      ((View.setOn_subset_set _ _).trans (View.set_slice_subset _ _))) $$ G
    iintro G
    iapply (ih (n + 1) h' ((a2.access (rO n hn) : View sig .tc _ _ _).write (Elt F) g
      (payO t (ldO (a1.view.read (Elt F) f) n hn)) Finset.univ) Q hg')
    isplitl [H]; · iexact H
    isplitl [G]; · iexact G
    rw [show n + 1 + k = n + (k + 1) from by omega]
    iexact Hk

section Loop

variable (loop : Λ.Label) (mk : BitVec 32 → FVec F SC .f32 → FVec F SC .f32 → Λ.Args loop)
  (tup : BitVec 32 × FVec F SC .f32 × FVec F SC .f32 → Λ.Result loop)
  (get : Λ.Result loop → BitVec 32 × FVec F SC .f32 × FVec F SC .f32)

/-- The loop's specification with `k` trips allowed: holding the block, it returns what `loopV` computes of it. -/
def loopSpec (f : Buf (Elt F) (a1.view.loc (c : Thread nD τ))) (k : ℕ) (j : BitVec 32) (tp t : FVec F SC .f32) :
    sWPT 𝕄 (Λ.Result loop) := do
  sWPT.consume iprop(a1.view.loc (c : Thread nD τ) ↦[a1.view.set]{fullShare} f)
  sWPT.produce iprop(a1.view.loc (c : Thread nD τ) ↦[a1.view.set]{fullShare} f)
  pure (tup (loopV (a1.view.read (Elt F) f) k j tp t))

theorem loopSpec_apply (f : Buf (Elt F) (a1.view.loc (c : Thread nD τ))) (k : ℕ) (j : BitVec 32) (tp t : FVec F SC .f32)
    (K : Λ.Result loop → sProp 𝕄) :
    loopSpec c a1 loop tup f k j tp t K
      = iprop((a1.view.loc (c : Thread nD τ) ↦[a1.view.set]{fullShare} f)
        ∗ ((a1.view.loc (c : Thread nD τ) ↦[a1.view.set]{fullShare} f) -∗ K (tup (loopV (a1.view.read (Elt F) f) k j tp t)))) := rfl

/-- Once the counter has reached 24 the test fails. -/
theorem test_end (tp t : FVec F SC .f32) : ¬test (BitVec.ofNat 32 24) tp t = 1#1 := by
  unfold test
  rw [show Scalar.cmpi .slt (BitVec.ofNat 32 24) 24#32 = 0#1 from by decide]
  unfold Scalar.andi IntOp.andi
  simp

/-- The counter's step. -/
theorem count_succ (j : ℕ) : Scalar.addi (BitVec.ofNat 32 j) 1#32 = BitVec.ofNat 32 (j + 1) := by
  show BitVec.ofNat 32 j + 1#32 = _
  rw [BitVec.ofNat_add]

/-- The loop's function meets its specification at the trips its counter still allows, by induction on them: the test fails
    and the carried values are returned, or it passes, one step runs, and the loop's own call is answered by the
    specification with one trip fewer. -/
theorem loop_spec (hdefs : ∀ j tp t, defs .tc loop (mk j tp t) = loopProg a1 loop mk tup j tp t)
    (f : Buf (Elt F) (a1.view.loc (c : Thread nD τ))) :
    ∀ (k j : ℕ), j + k = 24 → ∀ (tp t : FVec F SC .f32) (K : Λ.Result loop → sProp 𝕄),
      loopSpec c a1 loop tup f k (BitVec.ofNat 32 j) tp t K
        ⊢ wp frame (wpE defs Variants.nat (c : Thread nD τ) (some k)) E (defs .tc loop (mk (BitVec.ofNat 32 j) tp t)) K := by
  intro k
  induction k with
  | zero =>
    intro j hj tp t K
    obtain rfl : j = 24 := by omega
    rw [loopSpec_apply, hdefs]
    unfold loopProg
    rw [if_neg (test_end tp t), Prog.pure_eq_ret, wp_ret]
    unfold loopV
    iintro ⟨H, Hk⟩
    imodintro
    iapply Hk $$ H
  | succ k ih =>
    intro j hj tp t K
    rw [loopSpec_apply, hdefs]
    unfold loopProg loopV
    by_cases ht : test (BitVec.ofNat 32 j) tp t = 1#1
    · rw [if_pos ht, if_pos ht, wp_bind]
      iintro ⟨H, Hk⟩
      iapply (acc_spec defs c (some (k + 1)) E a1 fullShare f t 64 0 _ (zeroS, zeroS))
      isplitl [H]; · iexact H
      iintro H
      rw [count_succ]
      iapply (wp_call_spec Variants.nat (c : Thread nD τ) (some (k + 1)) E
        (loopSpec c a1 loop tup f k (BitVec.ofNat 32 (j + 1)) t (stepV (a1.view.read (Elt F) f) t)) k
        (fun u hu => by cases hu; exact Nat.lt_succ_self k) (ih (j + 1) (by omega) t _))
      rw [loopSpec_apply]
      isplitl [H]; · iexact H
      iintro H
      rw [wp_ret]
      imodintro
      iapply Hk $$ H
    · rw [if_neg ht, if_neg ht, Prog.pure_eq_ret, wp_ret]
      iintro ⟨H, Hk⟩
      imodintro
      iapply Hk $$ H

/-- THE BLOCK: holding its input block and its result's buffer, the block's function ends with the input as it was and
    the result's buffer reading `outV` of it. -/
theorem block_spec (hdefs : ∀ j tp t, defs .tc loop (mk j tp t) = loopProg a1 loop mk tup j tp t)
    (hget : ∀ r, get (tup r) = r) (x : FVec F SB .f32) (Q : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (outV x)) -∗ Q ⟨⟩))
      ⊢ wp frame (wpE defs Variants.nat (c : Thread nD τ) none) E (blockProg a1 a2 loop mk get) Q := by
  unfold blockProg owns
  iintro ⟨⟨%f, %hf, H⟩, ⟨%d, %g, -, G⟩, Hk⟩
  subst hf
  rw [wp_bind]
  iapply (max_spec defs c none E a1 fullShare f 64 0 _ _)
  isplitl [H]; · iexact H
  iintro H
  simp only [Prog.lift, Prog.bind_op, Prog.bind_ret]
  iapply (wp_call_spec Variants.nat (c : Thread nD τ) none E
    (loopSpec c a1 loop tup f 24 0#32 (prevOf (startV (a1.view.read (Elt F) f))) (startV (a1.view.read (Elt F) f))) 24
    (fun u hu => nomatch hu) (loop_spec defs c E a1 loop mk tup hdefs f 24 0 (by omega) _ _))
  rw [loopSpec_apply, hget]
  isplitl [H]; · iexact H
  iintro H
  iapply (out_spec defs c none E a1 a2 f _ 32 0 _ g Q (fun y hy => absurd hy (by omega)))
  isplitl [H]; · iexact H
  isplitl [G]; · iexact G
  iintro H ⟨%g', %hg', G⟩
  iapply Hk
  isplitl [H]
  · iexists f; isplitr; · ipureintro; rfl
    iexact H
  iexists g'
  isplitr
  · ipureintro
    exact funext fun y => hg' y (by have := (y 1).isLt; exact this)
  iexact G

end Loop

end Triples

end Cert.Proof.Strips

end
-- ==== Proof.KernelIdealRun.lean ====
/-
  The idealized program's run: its printed loop and block are the recursions of the strips, so the block's triple is the
  body's; the launch then gives the frame and names what the result's array ends holding.
-/
module

public import proofs.«01_k».proof.Proof.Strips
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 65536

noncomputable section

namespace Cert.KernelIdeal.Body

open Cert.KernelIdeal Cert.KernelIdeal.Gen Cert.Proof.Strips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The printed text is the strips' recursions -/

/-- The printed loop is the loop of the strips' recursions. -/
theorem while_eq (i : grid0.Coords) (arg1 : Memref sig .tc .vmem S32x32768 .f32) (harg1 : arg1.IsWhole) (j : BitVec 32)
    (tp t : FVec F S32x1 .f32) :
    cc0_while1 i arg1 harg1 j tp t
      = loopProg (nD := nD) (τ := τ) (Λ := Λ₀ F) arg1 1 (fun j tp t => ⟨i, arg1, harg1, j, tp, t⟩) id j tp t := rfl

section
variable (i : grid0.Coords) (arg1 : Memref sig .tc .vmem S32x32768 .f32) (harg1 : arg1.IsWhole)
   (arg2 : Memref sig .tc .vmem S32x32768 .f32) (harg2 : arg2.IsWhole)

/-- Part 1 is a stretch of the maximum's strips. -/
theorem part1_eq : k0_part1 (F := F) i arg1 harg1 arg2 harg2
    = maxProg (nD := nD) (τ := τ) (Λ := Λ₀ F) arg1 14 0 (by omega) (broadcast SS (Scalar.ofBits .f32 0xFF800000#32)) := rfl

/-- Part 2 is a stretch of the maximum's strips. -/
theorem part2_eq (v) : k0_part2 (F := F) i arg1 harg1 arg2 harg2 v
    = maxProg (nD := nD) (τ := τ) (Λ := Λ₀ F) arg1 15 14 (by omega) v := rfl

/-- Part 5 finishes the maximum, calls the loop and stores the first two strips. -/
theorem part5_eq (v) : k0_part5 (F := F) i arg1 harg1 arg2 harg2 v
    = (do let acc ← maxProg (nD := nD) (τ := τ) (Λ := Λ₀ F) arg1 5 59 (by omega) v
          let r ← Prog.lift (.call (1 : (Λ₀ F).Label) ⟨i, arg1, harg1, 0#32, prevOf (startOf acc), startOf acc⟩)
          outProg arg1 arg2 r.2.2 2 0 (by omega)
          pure r.2.2) := rfl

/-- Part 6 is a stretch of the result's strips. -/
theorem part6_eq (t) : k0_part6 (F := F) i arg1 harg1 arg2 harg2 t
    = outProg (nD := nD) (τ := τ) (Λ := Λ₀ F) arg1 arg2 t 4 2 (by omega) := rfl

/-- Part 3 is a stretch of the maximum's strips. -/
theorem part3_eq (v) : k0_part3 (F := F) i arg1 harg1 arg2 harg2 v
    = maxProg (nD := nD) (τ := τ) (Λ := Λ₀ F) arg1 15 29 (by omega) v := rfl

/-- Part 4 is a stretch of the maximum's strips. -/
theorem part4_eq (v) : k0_part4 (F := F) i arg1 harg1 arg2 harg2 v
    = maxProg (nD := nD) (τ := τ) (Λ := Λ₀ F) arg1 15 44 (by omega) v := rfl

/-- Part 7 is a stretch of the result's strips. -/
theorem part7_eq (t) : k0_part7 (F := F) i arg1 harg1 arg2 harg2 t
    = outProg (nD := nD) (τ := τ) (Λ := Λ₀ F) arg1 arg2 t 4 6 (by omega) := rfl

/-- Part 8 is a stretch of the result's strips. -/
theorem part8_eq (t) : k0_part8 (F := F) i arg1 harg1 arg2 harg2 t
    = outProg (nD := nD) (τ := τ) (Λ := Λ₀ F) arg1 arg2 t 4 10 (by omega) := rfl

/-- Part 9 is a stretch of the result's strips. -/
theorem part9_eq (t) : k0_part9 (F := F) i arg1 harg1 arg2 harg2 t
    = outProg (nD := nD) (τ := τ) (Λ := Λ₀ F) arg1 arg2 t 4 14 (by omega) := rfl

/-- Part 10 is a stretch of the result's strips. -/
theorem part10_eq (t) : k0_part10 (F := F) i arg1 harg1 arg2 harg2 t
    = outProg (nD := nD) (τ := τ) (Λ := Λ₀ F) arg1 arg2 t 4 18 (by omega) := rfl

/-- Part 11 is a stretch of the result's strips. -/
theorem part11_eq (t) : k0_part11 (F := F) i arg1 harg1 arg2 harg2 t
    = outProg (nD := nD) (τ := τ) (Λ := Λ₀ F) arg1 arg2 t 4 22 (by omega) := rfl

/-- Part 12 is a stretch of the result's strips. -/
theorem part12_eq (t) : k0_part12 (F := F) i arg1 harg1 arg2 harg2 t
    = outProg (nD := nD) (τ := τ) (Λ := Λ₀ F) arg1 arg2 t 4 26 (by omega) := rfl

/-- The printed block is the block of the strips' recursions. -/
theorem block_eq : cc0__sparsemax_block (F := F) i arg1 harg1 arg2 harg2
      = blockProg (nD := nD) (τ := τ) (Λ := Λ₀ F) arg1 arg2 1 (fun j tp t => ⟨i, arg1, harg1, j, tp, t⟩) id := by
  unfold cc0__sparsemax_block blockProg
  simp only [maxProg_append arg1 64 14 50 0 14 rfl rfl, maxProg_append arg1 50 15 35 14 29 rfl rfl,
    maxProg_append arg1 35 15 20 29 44 rfl rfl, maxProg_append arg1 20 15 5 44 59 rfl rfl,
    outProg_append arg1 arg2 _ 32 2 30 0 2 rfl rfl, outProg_append arg1 arg2 _ 30 4 26 2 6 rfl rfl,
    outProg_append arg1 arg2 _ 26 4 22 6 10 rfl rfl, outProg_append arg1 arg2 _ 22 4 18 10 14 rfl rfl,
    outProg_append arg1 arg2 _ 18 4 14 14 18 rfl rfl, outProg_append arg1 arg2 _ 14 4 10 18 22 rfl rfl,
    outProg_append arg1 arg2 _ 10 4 6 22 26 rfl rfl, outProg_append arg1 arg2 _ 6 4 2 26 30 rfl rfl,
    part1_eq, part2_eq, part3_eq, part4_eq, part5_eq, part6_eq, part7_eq, part8_eq, part9_eq, part10_eq, part11_eq, part12_eq,
    bind_assoc, pure_bind]
  rfl
end

/-! ## The body's triple -/

/-- The printed kernel on whole staging memrefs: the input's stays as it was, the result's ends at `outV` of it. -/
theorem sound_kernel (c : Dev nD) (E : Set ℕ) (i : grid0.Coords) (arg1 : Memref sig .tc .vmem S32x32768 .f32) (harg1 : arg1.IsWhole)
    (arg2 : Memref sig .tc .vmem S32x32768 .f32) (harg2 : arg2.IsWhole) (x0 : Vec F S32x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outV x0)) -∗ K ⟨⟩))
      ⊢ wp frame (wpE (defs₀ (F := F)) Variants.nat c none) E (cc0__sparsemax_block i arg1 harg1 arg2 harg2) K := by
  rw [block_eq]
  exact block_spec (defs₀ (F := F)) c E arg1 arg2 (1 : (Λ₀ F).Label) (fun j tp t => ⟨i, arg1, harg1, j, tp, t⟩) id id
    (fun j tp t => while_eq i arg1 harg1 j tp t) (fun _ => rfl) x0 K

/-! ## The launch -/

/-- What the TensorCore's buffers hold when the region is entered: what they held at the launch. -/
abbrev V (c : Dev nD) (b : Ref sig .tc) : Buf (Elt F) ((c : Thread nD τ).loc b) := m ((c : Thread nD τ).loc b)

set_option maxHeartbeats 800000 in
/-- The program is its one region. -/
theorem hmain : Pipeline.HMain (Ix := Unit) (Name := ℕ) (U := UR sig nD τ) (Lvl := ℕ) cfgs 0 defs₀ Variants.nat m (main (F := F)) (V m) :=
  Pipeline.hmain_region cfgs 0 defs₀ Variants.nat m main fun c => (main_chain c).trans rfl

/-- A window's block at a point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: at every point the input's buffer keeps its block and the result's ends at `outV` of it. -/
def dats (_ : Fin 1) (c : Dev nD) : Dat τ (Elt F) Unit ℕ (UR sig nD τ) ℕ (cfg0 (F := F)) c where
  A w := V m c (Pipeline.arrRef spec0 w)
  after := fun | ⟨0, _⟩ => fun t => iblk m c 0 t | ⟨1, _⟩ => fun t => outV (iblk m c 0 t)
  Φ _ := Pipeline.ΦA spec0 c
  q _ := fullShare
  owed _ := 0

/-- The arrays of the proof data are the ones the region finds; -/
theorem A_eq (c : Dev nD) (w : Fin (cfg0 (F := F)).W) : (dats m 0 c).A w = V m c (Pipeline.arrRef spec0 w) := by
  dsimp only [dats]

/-- the body leaves the input's block, -/
theorem after_in (c : Dev nD) (t : Fin (cfg0 (F := F)).N) : (dats m 0 c).after 0 t = iblk m c 0 t := rfl
/-- and the result's values. -/
theorem after_out (c : Dev nD) (t : Fin (cfg0 (F := F)).N) : (dats m 0 c).after 1 t = outV (iblk m c 0 t) := rfl

/-- The body finds the input's block in its buffer. -/
theorem before_in (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point, by its triple; what it does not touch passes through. -/
theorem sound_body (c : Dev nD) (t : Fin (cfg0 (F := F)).N) :
    bodyPre (F := F) m c t ⊢ wp frame (wpE (defs₀ (F := F)) Variants.nat c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point is the body there. -/
theorem defs₀_row (t : Fin (cfg0 (F := F)).N) :
    defs₀ (F := F) .tc cfg0.body (cfg0.bodyArgs t ((cfg0 (F := F)).slots t)) = bodyAt0 t := by
  unfold defs₀; rw [Defs.onTc_tc]

/-- The launch's obligation of the body. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: every execution ends, the arrays at what the proof data say, every counter at zero. -/
theorem launched : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m) (hA := A_eq m) (hΦ := fun _ _ => rfl)

/-- The argument ends as it was. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (A_eq m c 0))

/-- THE FRAME: every execution ends with the argument as it was and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept m r h.1 c, h.2⟩) (launched m ρ)

end Cert.KernelIdeal.Body

end
-- ==== Proof.Whole.lean ====
/-
  The whole result array as one function of the argument array: entry `(r, l)` is the block's result at row `r % 32`,
  of the block of 32 rows that holds row `r`. Stated at any float values, on the strips' recursions alone.
-/
module

public import proofs.«01_k».proof.Proof.Strips

@[expose] public section

noncomputable section

namespace Cert.Proof.Strips

open Idealize.ShloMosaic

/-- The shape of the argument and of the result. -/
abbrev SA : Shape := ⟨2, ![128, 32768]⟩

variable {F : FTy → Type} [FloatOps F]

/-- Where entry `y` of block `p` lies in the array. -/
def inArr (p : Fin 4) (y : SB.Idx) : SA.Idx := fun a => match a with
  | ⟨0, _⟩ => (⟨32 * p.val + (y 0).val, by have h : (y 0).val < 32 := (y 0).isLt; have := p.isLt; omega⟩ : Fin 128)
  | ⟨1, _⟩ => (⟨(y 1).val, (y 1).isLt⟩ : Fin 32768)

/-- Which block holds an entry, -/
def blkOf (i : SA.Idx) : Fin 4 := ⟨(i 0).val / 32, by have h : (i 0).val < 128 := (i 0).isLt; omega⟩

/-- and where in that block it lies. -/
def inBlk (i : SA.Idx) : SB.Idx := fun a => match a with
  | ⟨0, _⟩ => (⟨(i 0).val % 32, Nat.mod_lt _ (by decide)⟩ : Fin 32)
  | ⟨1, _⟩ => (⟨(i 1).val, (i 1).isLt⟩ : Fin 32768)

/-- Block `p` of an array. -/
def blockOf (a : FVec F SA .f32) (p : Fin 4) : FVec F SB .f32 := fun y => a (inArr p y)

/-- The result array. -/
def wholeV (a : FVec F SA .f32) : FVec F SA .f32 := fun i => outV (blockOf a (blkOf i)) (inBlk i)

theorem blkOf_inArr (p : Fin 4) (y : SB.Idx) : blkOf (inArr p y) = p := by
  have h : (y 0).val < 32 := (y 0).isLt
  exact Fin.ext (by show (32 * p.val + (y 0).val) / 32 = p.val; omega)

theorem inBlk_inArr (p : Fin 4) (y : SB.Idx) : inBlk (inArr p y) = y := by
  have h : (y 0).val < 32 := (y 0).isLt
  funext a
  match a with
  | ⟨0, _⟩ => exact Fin.ext (by show (32 * p.val + (y 0).val) % 32 = (y 0).val; omega)
  | ⟨1, _⟩ => rfl

/-- Block `p` of the result array is the result of block `p`. -/
theorem wholeV_inArr (a : FVec F SA .f32) (p : Fin 4) (y : SB.Idx) : wholeV a (inArr p y) = outV (blockOf a p) y := by
  unfold wholeV
  rw [blkOf_inArr, inBlk_inArr]

end Cert.Proof.Strips

end
-- ==== Proof.KernelIdealValue.lean ====
/-
  What the idealized program's result array holds after its run: each grid point writes back its block's result, the
  four blocks tile the array, and so the array is `wholeV` of the argument array.
-/
module

public import proofs.«01_k».proof.Proof.Whole
public import proofs.«01_k».proof.Proof.KernelIdealRun
public import Idealize.ShloMosaic.Lib.Pipeline.Value

@[expose] public section

noncomputable section

namespace Cert.KernelIdeal.Body

open Cert.KernelIdeal Cert.KernelIdeal.Gen Cert.Proof.Strips
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Which of the four blocks of rows a grid point works on: the two windows agree. -/
theorem points : ∀ t : Fin (cfg0 (F := F)).N, ∃ p : Fin 4,
    win0_0.index t = ![p.val, 0] ∧ win0_1.index t = ![p.val, 0] :=
  (by decide +kernel : ∀ t : Fin grid0.N, ∃ p : Fin 4, win0_0.index t = ![p.val, 0] ∧ win0_1.index t = ![p.val, 0])

/-- Every block is some point's. -/
theorem reached : ∀ p : Fin 4, ∃ t : Fin (cfg0 (F := F)).N, win0_1.index t = ![p.val, 0] :=
  (by decide +kernel : ∀ p : Fin 4, ∃ t : Fin grid0.N, win0_1.index t = ![p.val, 0])

/-- The input's block at a point lies where block `p` of the array does, -/
theorem emb_in (t : Fin (cfg0 (F := F)).N) (p : Fin 4) (h : win0_0.index t = ![p.val, 0]) (j : S32x32768.Idx) :
    (((cfg0 (F := F)).win 0).blk t).view.emb j = inArr p j := by
  have h0 : win0_0.index t (0 : Fin 2) = p.val := congrFun h 0
  have h1 : win0_0.index t (1 : Fin 2) = 0 := congrFun h 1
  funext a
  apply Fin.ext
  match a with
  | ⟨0, _⟩ => show win0_0.index t (0 : Fin 2) * 32 + 1 * (j 0).val = 32 * p.val + (j 0).val; omega
  | ⟨1, _⟩ => show win0_0.index t (1 : Fin 2) * 32768 + 1 * (j 1).val = (j 1).val; omega

/-- and the result's block too. -/
theorem emb_out (t : Fin (cfg0 (F := F)).N) (p : Fin 4) (h : win0_1.index t = ![p.val, 0]) (j : S32x32768.Idx) :
    (((cfg0 (F := F)).win 1).blk t).view.emb j = inArr p j := by
  have h0 : win0_1.index t (0 : Fin 2) = p.val := congrFun h 0
  have h1 : win0_1.index t (1 : Fin 2) = 0 := congrFun h 1
  funext a
  apply Fin.ext
  match a with
  | ⟨0, _⟩ => show win0_1.index t (0 : Fin 2) * 32 + 1 * (j 0).val = 32 * p.val + (j 0).val; omega
  | ⟨1, _⟩ => show win0_1.index t (1 : Fin 2) * 32768 + 1 * (j 1).val = (j 1).val; omega

/-- The block the body finds is block `p` of the argument. -/
theorem iblk_eq (c : Dev nD) (t : Fin (cfg0 (F := F)).N) (p : Fin 4) (h : win0_0.index t = ![p.val, 0]) :
    iblk m c 0 t = blockOf (m ((c : Thread nD τ).loc main_arg0)) p :=
  funext fun j => congrArg (m ((c : Thread nD τ).loc main_arg0)) (emb_in t p h j)

/-- What a point writes back is its block of the result array. -/
theorem flushed_eq (c : Dev nD) (t : Fin (cfg0 (F := F)).N) :
    (dats m 0 c).flushed 1 t
      = (((cfg0 (F := F)).win 1).blk t).view.read (Elt F) (wholeV (m ((c : Thread nD τ).loc main_arg0))) := by
  obtain ⟨p, hi, ho⟩ := points (F := F) t
  show ((cfg0 (F := F)).win 1).cut (grid0.coords t) ((dats m 0 c).after 1 t) = _
  rw [after_out, iblk_eq m c t p hi]
  exact funext fun j => ((congrArg (wholeV (m ((c : Thread nD τ).loc main_arg0))) (emb_out t p ho j)).trans
    (wholeV_inArr (m ((c : Thread nD τ).loc main_arg0)) p j)).symm

/-- Every entry of the array is in some point's block. -/
theorem covered (i : S128x32768.Idx) : ∃ t : Fin (cfg0 (F := F)).N,
    ((cfg0 (F := F)).win 1).flush t = true ∧ i ∈ (((cfg0 (F := F)).win 1).blk t).view.set := by
  obtain ⟨t, ht⟩ := reached (F := F) (blkOf i)
  have h0 : win0_1.index t (0 : Fin 2) = (i 0).val / 32 := congrFun ht 0
  have h1 : win0_1.index t (1 : Fin 2) = 0 := congrFun ht 1
  have hi1 : (i 1).val < 32768 := (i 1).isLt
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 32768 ≤ (i 1).val ∧ (i 1).val < win0_1.index t (1 : Fin 2) * 32768 + 32768; omega

/-- The result array after the last point. -/
theorem final (c : Dev nD) : (dats m 0 c).arrAt 1 (cfg0 (F := F)).N = wholeV (m ((c : Thread nD τ).loc main_arg0)) :=
  (dats m 0 c).arrAt_eq_of_cover 1 _ (fun t _ => flushed_eq m c t) covered

/-- THE RUN: every execution ends with the result array at `wholeV` of the argument and the argument as it was. -/
theorem ran : θ_run defs (onTc (τ := τ) (main (F := F))) ⟨m, fun _ => 0, ρ⟩ (fun r => ∀ c : Dev nD,
      r.2.mem ((c.tc : Thread nD τ).loc main_v0) = wholeV (m ((c.tc : Thread nD τ).loc main_arg0))
      ∧ r.2.mem ((c.tc : Thread nD τ).loc main_arg0) = m ((c.tc : Thread nD τ).loc main_arg0)) :=
  (θ_run defs _ _).mono (fun r h c => ⟨((h.1 c).1 1).trans (final m c), kept m r h.1 c⟩) (launched m ρ)

end Cert.KernelIdeal.Body

end
-- ==== Proof.ReferenceRun.lean ====
/-
  The reference's frame: its run leaves the argument as it was, and it has no semaphore to count on.
-/
module

public import proofs.«01_k».proof.Proof.Gen.ReferenceIdeal.Run
public import Idealize.ShloMosaic.Lib.Quiescent

@[expose] public section

noncomputable section

namespace Cert.ReferenceIdeal.Body

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- THE FRAME: every execution ends with the argument as it was and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (Value.run m ρ)

end Cert.ReferenceIdeal.Body

end
-- ==== Proof.Prefix.lean ====
/-
  A running sum along the second axis, written as a sum over windows of the whole row padded on the left: at place `j` it
  is the sum of the row's entries at places up to `j`.
-/
module

public import Idealize.ShloMosaic.PureOps
public import Idealize.ShloMosaic.Lib.Pointwise

@[expose] public section

noncomputable section

namespace Cert.Proof.Prefix

open Idealize.ShloMosaic

/-- A left fold of additions is the starting value plus the sum. -/
theorem foldl_add {M : Type} [AddCommMonoid M] {n : ℕ} (g : Fin n → M) (b : M) :
    (List.finRange n).foldl (fun r i => r + g i) b = b + ∑ i, g i := by
  have h : ∀ (l : List (Fin n)) (b : M), l.foldl (fun r i => r + g i) b = b + (l.map g).sum := by
    intro l
    induction l with
    | nil => intro b; simp
    | cons a l ih => intro b; rw [List.foldl_cons, ih, List.map_cons, List.sum_cons, add_assoc]
  rw [h, ← Fin.sum_univ_def]

/-- The window over place `j` that starts `n` places before `j + 1` meets the row in its places up to `j`: turning the
    row by `j + 1` places carries the one to the other. -/
theorem sum_window {M : Type} [AddCommMonoid M] {n : ℕ} (f : Fin (n + 1) → M) (j : Fin (n + 1)) :
    (∑ k : Fin (n + 1), if h : n ≤ j.val + k.val ∧ j.val + k.val - n < n + 1 then f ⟨j.val + k.val - n, h.2⟩ else 0)
      = ∑ i, if i ≤ j then f i else 0 := by
  refine Fintype.sum_equiv ((Equiv.addLeft j).trans (Equiv.addRight 1)) _ _ fun k => ?_
  have hj := j.isLt
  have hk := k.isLt
  have hv : (j + k + 1).val = if n ≤ j.val + k.val then j.val + k.val - n else j.val + k.val + 1 := by
    rw [Fin.val_add, Fin.val_add, Fin.val_one', Nat.add_mod_mod, Nat.mod_add_mod]
    split
    · rw [show j.val + k.val + 1 = j.val + k.val - n + (n + 1) by omega, Nat.add_mod_right, Nat.mod_eq_of_lt (by omega)]
    · exact Nat.mod_eq_of_lt (by omega)
  show _ = if j + k + 1 ≤ j then f (j + k + 1) else 0
  by_cases h : n ≤ j.val + k.val
  · rw [if_pos h] at hv
    rw [dif_pos ⟨h, by omega⟩, if_pos (Fin.le_def.2 (by omega))]
    exact congrArg f (Fin.ext hv.symm)
  · rw [if_neg h] at hv
    rw [dif_neg fun h' => h h'.1, if_neg fun h' => by have := Fin.le_def.1 h'; omega]

/-- The running sum, read at a place. -/
theorem reduceWindow_apply {R N n : ℕ} (hn : n + 1 = N) (x : (⟨2, ![R, N]⟩ : Shape).Idx → EReal) (b : EReal) (hb : b = 0)
    (h : (⟨2, ![R, N]⟩ : Shape).ReduceWindows (![1, N] : Fin 2 → ℕ) ![1, 1] ![0, n] ![0, 0] ⟨2, ![R, N]⟩)
    (r : Fin R) (j : Fin N) :
    Ideal.hostReduceWindowAdd ![1, N] ![1, 1] ![0, n] ![0, 0] h x b (ix2 r j)
      = ∑ i, if i ≤ j then x (ix2 r i) else 0 := by
  subst hn
  subst hb
  unfold Ideal.hostReduceWindowAdd Host.reduceWindow
  dsimp only
  rw [foldl_add, zero_add]
  rw [← Equiv.sum_comp (⟨2, ![1, n + 1]⟩ : Shape).rowMajor]
  simp only [Equiv.symm_apply_apply]
  rw [sum_idx2, Fin.sum_univ_one, ← sum_window]
  refine Finset.sum_congr rfl fun k _ => ?_
  by_cases hk : n ≤ j.val + k.val ∧ j.val + k.val - n < n + 1
  · rw [dif_pos hk]
    refine (dif_pos (fun a => ?_)).trans (congrArg x ?_)
    · match a with
      | ⟨0, _⟩ => exact ⟨Nat.zero_le _, by show r.val * 1 + 0 - 0 < R; have := r.isLt; omega⟩
      | ⟨1, _⟩ => show n ≤ j.val * 1 + k.val ∧ j.val * 1 + k.val - n < n + 1; rw [Nat.mul_one]; exact hk
    · funext a
      match a with
      | ⟨0, _⟩ => exact Fin.ext (by show r.val * 1 + 0 - 0 = r.val; omega)
      | ⟨1, _⟩ => exact Fin.ext (by show j.val * 1 + k.val - n = j.val + k.val - n; rw [Nat.mul_one])
  · rw [dif_neg hk]
    refine dif_neg fun hin => hk ?_
    have h1 : n ≤ j.val * 1 + k.val ∧ j.val * 1 + k.val - n < n + 1 := hin 1
    rwa [Nat.mul_one] at h1

end Cert.Proof.Prefix

end
-- ==== Proof.Newton.lean ====
/-
  Newton's iteration for the threshold of a row, over the reals. For a row `x` of extended reals, none of them `+∞`, and a
  threshold `t`, the entries above `t` are a finite set; the next threshold is their sum less a half, over their number.
  From a half below the row's greatest entry the thresholds never fall, and each one that is not yet a fixed point loses
  at least one entry, so they end at a root: a threshold that the entries above exceed by exactly a half in all. The gap
  times the number of entries above falls at each step to a quarter or less, so that after 16 steps a row of 32768 entries
  is within `1 / (8 K²)` of its root, `K` entries being above the root. Hence two ways for 24 steps to suffice
  (`ends_near`, `ends_close`): at most 23 entries lie between the first threshold and the root, or at most 7 lie within
  `1 / (8 K²)` below the root.
-/
module

public import Mathlib.Data.EReal.Operations
public import Mathlib.Algebra.BigOperators.Group.Finset.Basic
public import Mathlib.Algebra.Order.BigOperators.Group.Finset
public import Mathlib.Tactic.Linarith
public import Mathlib.Tactic.Ring
public import Mathlib.Tactic.FieldSimp

@[expose] public section

noncomputable section

namespace Cert.Proof.Newton

variable {ι : Type} [Fintype ι]

/-- The entries above a threshold. -/
def above (x : ι → EReal) (t : ℝ) : Finset ι := Finset.univ.filter fun i => (t : EReal) < x i

/-- By how much, in all, the entries above a threshold exceed it, less a half. -/
def gap (x : ι → EReal) (t : ℝ) : ℝ := ∑ i ∈ above x t, ((x i).toReal - t) - 1 / 2

/-- The next threshold. -/
def nxt (x : ι → EReal) (t : ℝ) : ℝ := (∑ i ∈ above x t, (x i).toReal - 1 / 2) / (above x t).card

variable {x : ι → EReal}

theorem mem_above {t : ℝ} {i : ι} : i ∈ above x t ↔ (t : EReal) < x i := by simp [above]

/-- An entry above a threshold is a real number. -/
theorem coe_toReal_of_mem (hx : ∀ i, x i ≠ ⊤) {t : ℝ} {i : ι} (hi : i ∈ above x t) : ((x i).toReal : EReal) = x i :=
  EReal.coe_toReal (hx i) fun h => by rw [mem_above, h] at hi; exact absurd hi not_lt_bot

theorem lt_toReal (hx : ∀ i, x i ≠ ⊤) {t : ℝ} {i : ι} (hi : i ∈ above x t) : t < (x i).toReal := by
  have h := mem_above.mp hi
  rw [← coe_toReal_of_mem hx hi] at h
  exact EReal.coe_lt_coe_iff.mp h

/-- Raising the threshold loses entries, and gains none. -/
theorem above_anti {s t : ℝ} (h : s ≤ t) : above x t ⊆ above x s := fun i hi =>
  mem_above.mpr (lt_of_le_of_lt (EReal.coe_le_coe_iff.mpr h) (mem_above.mp hi))

theorem gap_eq (t : ℝ) : gap x t = ∑ i ∈ above x t, (x i).toReal - (above x t).card * t - 1 / 2 := by
  simp only [gap, Finset.sum_sub_distrib, Finset.sum_const, nsmul_eq_mul]

/-- A threshold with a gap of at least zero has an entry above it. -/
theorem nonempty_of_gap {t : ℝ} (h : 0 ≤ gap x t) : (above x t).Nonempty := by
  by_contra hn
  rw [Finset.not_nonempty_iff_eq_empty] at hn
  rw [gap, hn, Finset.sum_empty] at h
  norm_num at h

theorem card_pos_of_gap {t : ℝ} (h : 0 ≤ gap x t) : (0 : ℝ) < (above x t).card :=
  Nat.cast_pos.mpr (Finset.card_pos.mpr (nonempty_of_gap h))

/-- The next threshold is the gap, shared among the entries above, further up. -/
theorem nxt_eq {t : ℝ} (h : 0 ≤ gap x t) : nxt x t = t + gap x t / (above x t).card := by
  have hc := (card_pos_of_gap h).ne'
  rw [gap_eq, nxt]
  field_simp
  ring

/-- So it is no lower, -/
theorem le_nxt {t : ℝ} (h : 0 ≤ gap x t) : t ≤ nxt x t := by
  rw [nxt_eq h]
  exact le_add_of_nonneg_right (div_nonneg h (card_pos_of_gap h).le)

/-- and its own gap is again at least zero: the entries lost on the way were at most the next threshold. -/
theorem gap_nxt (hx : ∀ i, x i ≠ ⊤) {t : ℝ} (h : 0 ≤ gap x t) : 0 ≤ gap x (nxt x t) := by
  classical
  have hc := (card_pos_of_gap h).ne'
  have hz : ∑ i ∈ above x t, ((x i).toReal - nxt x t) - 1 / 2 = 0 := by
    simp only [Finset.sum_sub_distrib, Finset.sum_const, nsmul_eq_mul]
    rw [nxt]
    field_simp
    ring
  have hle : ∑ i ∈ above x t, ((x i).toReal - nxt x t) ≤ ∑ i ∈ above x (nxt x t), ((x i).toReal - nxt x t) := by
    rw [← Finset.sum_sdiff (above_anti (le_nxt h))]
    refine add_le_of_nonpos_left (Finset.sum_nonpos fun i hi => ?_)
    obtain ⟨hi, hn⟩ := Finset.mem_sdiff.mp hi
    rw [mem_above, not_lt, ← coe_toReal_of_mem hx hi, EReal.coe_le_coe_iff] at hn
    linarith
  rw [gap]
  linarith

/-- A threshold is a fixed point exactly when its gap is zero. -/
theorem gap_eq_zero {t : ℝ} (h : 0 ≤ gap x t) (hf : nxt x t = t) : gap x t = 0 := by
  have hc := (card_pos_of_gap h).ne'
  rw [nxt_eq h] at hf
  have : gap x t / (above x t).card = 0 := by linarith
  exact (div_eq_zero_iff.mp this).resolve_right hc

/-- Unless the next threshold is a fixed point, it loses an entry. -/
theorem card_lt {t : ℝ} (h : 0 ≤ gap x t) (hn : nxt x (nxt x t) ≠ nxt x t) :
    (above x (nxt x t)).card < (above x t).card := by
  refine Finset.card_lt_card (lt_of_le_of_ne (above_anti (le_nxt h)) fun he => hn ?_)
  conv_lhs => rw [nxt, he]
  rfl

/-- The thresholds keep a gap of at least zero, and never fall. -/
theorem seq_gap (hx : ∀ i, x i ≠ ⊤) {t : ℝ} (h : 0 ≤ gap x t) (k : ℕ) :
    0 ≤ gap x ((nxt x)^[k] t) ∧ t ≤ (nxt x)^[k] t := by
  induction k with
  | zero => exact ⟨h, le_rfl⟩
  | succ k ih =>
    rw [Function.iterate_succ_apply']
    exact ⟨gap_nxt hx ih.1, ih.2.trans (le_nxt ih.1)⟩

/-- A threshold not yet a fixed point has lost an entry at each step before it. -/
theorem seq_card (hx : ∀ i, x i ≠ ⊤) {t : ℝ} (h : 0 ≤ gap x t) (k : ℕ)
    (hn : nxt x ((nxt x)^[k] t) ≠ (nxt x)^[k] t) : (above x ((nxt x)^[k] t)).card + k ≤ (above x t).card := by
  induction k with
  | zero => exact le_rfl
  | succ k ih =>
    rw [Function.iterate_succ_apply'] at hn ⊢
    have hk := ih fun he => hn (by rw [he, he])
    have := card_lt (seq_gap hx h k).1 hn
    omega

/-- The gap a half below the greatest entry is at least zero. -/
theorem gap_start (hx : ∀ i, x i ≠ ⊤) {M : ℝ} {a : ι} (ha : x a = M) : 0 ≤ gap x (M - 1 / 2) := by
  have hm : a ∈ above x (M - 1 / 2) := mem_above.mpr (by rw [ha, EReal.coe_lt_coe_iff]; linarith)
  have h1 := Finset.single_le_sum (f := fun i => (x i).toReal - (M - 1 / 2))
    (fun i hi => (sub_pos.mpr (lt_toReal hx hi)).le) hm
  have h2 : (x a).toReal - (M - 1 / 2) = 1 / 2 := by rw [ha, EReal.toReal_coe]; ring
  rw [gap]
  linarith [h1, h2]

/-- The thresholds are in order. -/
theorem seq_mono (hx : ∀ i, x i ≠ ⊤) {t : ℝ} (h : 0 ≤ gap x t) (k m : ℕ) : (nxt x)^[k] t ≤ (nxt x)^[m + k] t := by
  rw [Function.iterate_add_apply]
  exact (seq_gap hx (seq_gap hx h k).1 m).2

/-- They end at a root, which none of them passes. -/
theorem exists_root (hx : ∀ i, x i ≠ ⊤) {t : ℝ} (h : 0 ≤ gap x t) : ∃ τ : ℝ, gap x τ = 0 ∧ ∀ k, (nxt x)^[k] t ≤ τ := by
  have hf : nxt x ((nxt x)^[(above x t).card + 1] t) = (nxt x)^[(above x t).card + 1] t := by
    by_contra hn
    have := seq_card hx h _ hn
    omega
  refine ⟨(nxt x)^[(above x t).card + 1] t, gap_eq_zero (seq_gap hx h _).1 hf, fun k => ?_⟩
  rcases le_total k ((above x t).card + 1) with hk | hk
  · obtain ⟨m, hm⟩ := Nat.exists_eq_add_of_le' hk
    rw [hm]
    exact seq_mono hx h k m
  · obtain ⟨m, rfl⟩ := Nat.exists_eq_add_of_le' hk
    rw [Function.iterate_add_apply, Function.iterate_fixed hf]

/-- The entries between a threshold and a higher one. -/
def between (x : ι → EReal) (t τ : ℝ) : Finset ι := Finset.univ.filter fun i => x i ≤ τ ∧ (t : EReal) < x i

theorem card_between {t τ : ℝ} (h : t ≤ τ) : (above x t).card = (above x τ).card + (between x t τ).card := by
  classical
  rw [← Finset.card_union_of_disjoint]
  · congr 1
    ext i
    simp only [between, Finset.mem_union, mem_above, Finset.mem_filter, Finset.mem_univ, true_and]
    constructor
    · intro hi
      rcases lt_or_ge (τ : EReal) (x i) with hτ | hτ
      · exact .inl hτ
      · exact .inr ⟨hτ, hi⟩
    · rintro (hi | hi)
      · exact lt_of_le_of_lt (EReal.coe_le_coe_iff.mpr h) hi
      · exact hi.2
  · refine Finset.disjoint_left.mpr fun i hi hb => ?_
    rw [between, Finset.mem_filter] at hb
    exact absurd (mem_above.mp hi) (not_lt.mpr hb.2.1)

/-- Where at most `23 - m` entries lie between the `m`-th threshold and a root, the 24th threshold has gap zero. -/
theorem ends (hx : ∀ i, x i ≠ ⊤) {t τ : ℝ} (h : 0 ≤ gap x t) (hτ : ∀ k, (nxt x)^[k] t ≤ τ) (m : ℕ) (hm : m ≤ 23)
    (hc : (between x ((nxt x)^[m] t) τ).card ≤ 23 - m) : gap x ((nxt x)^[24] t) = 0 := by
  refine gap_eq_zero (seq_gap hx h 24).1 ?_
  by_contra hn
  have h24 : (nxt x)^[24] t = (nxt x)^[24 - m] ((nxt x)^[m] t) := by
    rw [← Function.iterate_add_apply, Nat.sub_add_cancel (by omega)]
  have h1 := card_between (x := x) (hτ m)
  have h2 := Finset.card_le_card (above_anti (x := x) (hτ 24))
  rw [h24] at hn h2
  have h3 := seq_card hx (seq_gap hx h m).1 (24 - m) hn
  omega

/-- One step divides the gap times the number of entries above by four or more: the entries kept, a part `r` of those
    there were, leave at most the part `1 - r` of the gap. -/
theorem gap_card (hx : ∀ i, x i ≠ ⊤) {t : ℝ} (h : 0 ≤ gap x t) :
    gap x (nxt x t) * (above x (nxt x t)).card ≤ gap x t * (above x t).card / 4 := by
  have hc := card_pos_of_gap h
  have hsum : ∑ i ∈ above x (nxt x t), ((x i).toReal - t) ≤ ∑ i ∈ above x t, ((x i).toReal - t) :=
    Finset.sum_le_sum_of_subset_of_nonneg (above_anti (le_nxt h)) fun i hi _ => (sub_pos.mpr (lt_toReal hx hi)).le
  have hg : gap x (nxt x t) + (above x (nxt x t)).card * (gap x t / (above x t).card) ≤ gap x t := by
    have h1 : ∑ i ∈ above x (nxt x t), ((x i).toReal - t)
        = ∑ i ∈ above x (nxt x t), ((x i).toReal - nxt x t) + (above x (nxt x t)).card * (nxt x t - t) := by
      simp only [Finset.sum_sub_distrib, Finset.sum_const, nsmul_eq_mul]
      ring
    have h2 : nxt x t - t = gap x t / (above x t).card := by rw [nxt_eq h]; ring
    rw [h2] at h1
    have h3 : gap x (nxt x t) = ∑ i ∈ above x (nxt x t), ((x i).toReal - nxt x t) - 1 / 2 := rfl
    have h4 : gap x t = ∑ i ∈ above x t, ((x i).toReal - t) - 1 / 2 := rfl
    linarith
  have hc' : (0 : ℝ) ≤ (above x (nxt x t)).card := Nat.cast_nonneg _
  generalize gap x (nxt x t) = g' at hg ⊢
  generalize ((above x (nxt x t)).card : ℝ) = c' at hg hc' ⊢
  generalize gap x t = g at h hg ⊢
  generalize ((above x t).card : ℝ) = c at hc hg ⊢
  have hr : g' ≤ g - c' * (g / c) := by linarith
  have h1 : g' * c' ≤ (g - c' * (g / c)) * c' := mul_le_mul_of_nonneg_right hr hc'
  have h2 : (g - c' * (g / c)) * c' = g * c / 4 - g / c * (c' - c / 2) ^ 2 := by
    field_simp
    ring
  have h3 : 0 ≤ g / c * (c' - c / 2) ^ 2 := mul_nonneg (div_nonneg h hc.le) (sq_nonneg _)
  linarith

theorem seq_gap_card (hx : ∀ i, x i ≠ ⊤) {t : ℝ} (h : 0 ≤ gap x t) (k : ℕ) :
    gap x ((nxt x)^[k] t) * (above x ((nxt x)^[k] t)).card ≤ gap x t * (above x t).card / 4 ^ k := by
  induction k with
  | zero => simp
  | succ k ih =>
    rw [Function.iterate_succ_apply']
    refine (gap_card hx (seq_gap hx h k).1).trans ?_
    rw [pow_succ, ← div_div]
    exact div_le_div_of_nonneg_right ih (by norm_num)

/-- Half below the greatest entry, the gap times the number of entries above is at most half the square of that number. -/
theorem gap_card_start (hx : ∀ i, x i ≠ ⊤) {M : ℝ} (hM : ∀ i, x i ≤ M) :
    gap x (M - 1 / 2) * (above x (M - 1 / 2)).card ≤ (Fintype.card ι : ℝ) ^ 2 / 2 := by
  have h1 : ∑ i ∈ above x (M - 1 / 2), ((x i).toReal - (M - 1 / 2)) ≤ ∑ i ∈ above x (M - 1 / 2), (1 / 2 : ℝ) :=
    Finset.sum_le_sum fun i hi => by
      have := hM i
      rw [← coe_toReal_of_mem hx hi, EReal.coe_le_coe_iff] at this
      linarith
  rw [Finset.sum_const, nsmul_eq_mul] at h1
  have h2 : gap x (M - 1 / 2) ≤ (above x (M - 1 / 2)).card * (1 / 2) := by rw [gap]; linarith
  have h3 : ((above x (M - 1 / 2)).card : ℝ) ≤ Fintype.card ι := by exact_mod_cast Finset.card_le_univ _
  have h4 : (0 : ℝ) ≤ (above x (M - 1 / 2)).card := Nat.cast_nonneg _
  nlinarith

/-- A threshold lies below a root by at most its gap times its number of entries above, over the square of the root's. -/
theorem root_sub_le (hx : ∀ i, x i ≠ ⊤) {t τ : ℝ} (h : 0 ≤ gap x t) (ht : t ≤ τ) (hτ : gap x τ = 0) :
    τ - t ≤ gap x t * (above x t).card / (above x τ).card ^ 2 := by
  have hK := card_pos_of_gap hτ.ge
  have hKc : ((above x τ).card : ℝ) ≤ (above x t).card := by exact_mod_cast Finset.card_le_card (above_anti (x := x) ht)
  have hsum : ∑ i ∈ above x τ, ((x i).toReal - t) ≤ ∑ i ∈ above x t, ((x i).toReal - t) :=
    Finset.sum_le_sum_of_subset_of_nonneg (above_anti ht) fun i hi _ => (sub_pos.mpr (lt_toReal hx hi)).le
  have h1 : ∑ i ∈ above x τ, ((x i).toReal - t)
      = ∑ i ∈ above x τ, ((x i).toReal - τ) + (above x τ).card * (τ - t) := by
    simp only [Finset.sum_sub_distrib, Finset.sum_const, nsmul_eq_mul]
    ring
  have h2 : (above x τ).card * (τ - t) ≤ gap x t := by
    rw [gap] at hτ ⊢
    linarith
  rw [le_div_iff₀ (by positivity)]
  have h3 : (τ - t) * (above x τ).card ^ 2 = ((above x τ).card * (τ - t)) * (above x τ).card := by ring
  rw [h3]
  exact (mul_le_mul_of_nonneg_right h2 hK.le).trans (mul_le_mul_of_nonneg_left hKc h)

/-- THE ITERATION ENDS, where at most 23 entries lie between the first threshold and the root; -/
theorem ends_near (hx : ∀ i, x i ≠ ⊤) {t τ : ℝ} (h : 0 ≤ gap x t) (hτ : ∀ k, (nxt x)^[k] t ≤ τ)
    (hc : (between x t τ).card ≤ 23) : gap x ((nxt x)^[24] t) = 0 :=
  ends hx h hτ 0 (by norm_num) hc

/-- and where, of at most 32768 entries, at most 7 lie within `1 / (8 K²)` below the root. -/
theorem ends_close (hx : ∀ i, x i ≠ ⊤) {M τ : ℝ} (hM : ∀ i, x i ≤ M) (h : 0 ≤ gap x (M - 1 / 2)) (h0 : gap x τ = 0)
    (hτ : ∀ k, (nxt x)^[k] (M - 1 / 2) ≤ τ) (hn : Fintype.card ι ≤ 32768)
    (hc : (between x (τ - 1 / 8 / (above x τ).card ^ 2) τ).card ≤ 7) : gap x ((nxt x)^[24] (M - 1 / 2)) = 0 := by
  refine ends hx h hτ 16 (by norm_num) ((Finset.card_le_card fun i hi => ?_).trans hc)
  have hK := card_pos_of_gap h0.ge
  have h1 := root_sub_le hx (seq_gap hx h 16).1 (hτ 16) h0
  have h2 : gap x ((nxt x)^[16] (M - 1 / 2)) * (above x ((nxt x)^[16] (M - 1 / 2))).card ≤ 1 / 8 := by
    refine (seq_gap_card hx h 16).trans ?_
    have hn' : (Fintype.card ι : ℝ) ≤ 32768 := by exact_mod_cast hn
    have := gap_card_start hx hM
    have hsq : (Fintype.card ι : ℝ) ^ 2 ≤ 32768 ^ 2 := pow_le_pow_left₀ (Nat.cast_nonneg _) hn' 2
    rw [div_le_iff₀ (by norm_num)]
    norm_num at hsq ⊢
    linarith
  have h3 := div_le_div_of_nonneg_right h2 (sq_nonneg ((above x τ).card : ℝ))
  rw [between, Finset.mem_filter] at hi ⊢
  refine ⟨hi.1, hi.2.1, lt_of_le_of_lt (EReal.coe_le_coe_iff.mpr ?_) hi.2.2⟩
  linarith

end Cert.Proof.Newton

end
-- ==== Proof.Row.lean ====
/-
  One row, over the extended reals: what the kernel's iteration makes of it and what the reference's sort and running sum
  make of it, and that the two agree. `next` is the kernel's step as it computes it; on real thresholds it is
  `Newton.nxt`, so with few entries to pass its 24th iterate `τ` leaves a gap of zero (`last_real`). The
  reference keeps the sorted entries `s k` with `1 + (k + 1) · s k` above the sum of the first `k + 1`; those are exactly
  the ones above `2 τ` (`check_iff`), so its threshold is `2 τ` (`tau_eq`).
-/
module

public import proofs.«01_k».proof.Proof.Newton
public import Idealize.ShloMosaic.PureOps.Ideal
public import Mathlib.Order.Interval.Finset.Fin
public import Mathlib.Data.Finset.Lattice.Fold

@[expose] public section

noncomputable section

namespace Cert.Proof.Row

open Idealize.ShloMosaic Cert.Proof.Newton

section Kernel
variable {ι : Type} [Fintype ι]

/-- The sum of the entries above a threshold, and their number. -/
def total (x : ι → EReal) (t : EReal) : EReal := ∑ i, if t < x i then x i else 0
def count (x : ι → EReal) (t : EReal) : EReal := ∑ i, if t < x i then 1 else 0

/-- The kernel's step. -/
def next (x : ι → EReal) (t : EReal) : EReal := Ideal.div (total x t - ((1 / 2 : ℝ) : EReal)) (count x t)

/-- Its first threshold, a half below the greatest entry; -/
def first (x : ι → EReal) : EReal := Finset.univ.sup x - ((1 / 2 : ℝ) : EReal)

/-- its last, after 24 steps; -/
def last (x : ι → EReal) : EReal := (next x)^[24] (first x)

/-- and what it makes of an entry at a threshold. -/
def cut (t v : EReal) : EReal := 2 * max (v - t) 0

theorem coe_sum {κ : Type} (S : Finset κ) (f : κ → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {x : ι → EReal}

theorem total_coe (hx : ∀ i, x i ≠ ⊤) (t : ℝ) : total x t = ((∑ i ∈ above x t, (x i).toReal : ℝ) : EReal) := by
  rw [total, ← Finset.sum_filter, coe_sum]
  exact Finset.sum_congr rfl fun i hi => (coe_toReal_of_mem hx hi).symm

theorem count_coe (t : ℝ) : count x t = (((above x t).card : ℝ) : EReal) := by
  rw [count, ← Finset.sum_filter, show ((above x t).card : ℝ) = ∑ i ∈ above x t, (1 : ℝ) by simp, coe_sum]
  rfl

/-- A quotient of reals, the divisor not zero, is their quotient. -/
theorem div_real (a : ℝ) {b : ℝ} (h : b ≠ 0) : Ideal.div (a : EReal) (b : EReal) = ((a / b : ℝ) : EReal) := by
  rw [Ideal.div_coe h, ← EReal.coe_mul, mul_one_div]

/-- On a real threshold with an entry above it, the kernel's step is the step over the reals. -/
theorem next_coe (hx : ∀ i, x i ≠ ⊤) {t : ℝ} (h : 0 ≤ gap x t) : next x t = ((nxt x t : ℝ) : EReal) := by
  rw [next, total_coe hx, count_coe, ← EReal.coe_sub, div_real _ (card_pos_of_gap h).ne']
  rfl

theorem iterate_coe (hx : ∀ i, x i ≠ ⊤) {t : ℝ} (h : 0 ≤ gap x t) (k : ℕ) :
    (next x)^[k] (t : EReal) = (((nxt x)^[k] t : ℝ) : EReal) := by
  induction k with
  | zero => rfl
  | succ k ih => rw [Function.iterate_succ_apply', Function.iterate_succ_apply', ih, next_coe hx (seq_gap hx h k).1]

/-- Doubling keeps and reflects the order with a real number. -/
theorem lt_two_mul {τ : ℝ} {v : EReal} (hv : v ≠ ⊤) : ((2 * τ : ℝ) : EReal) < 2 * v ↔ (τ : EReal) < v := by
  induction v with
  | bot =>
    have h2 : (2 : EReal) * ⊥ = ⊥ := EReal.coe_mul_bot_of_pos (x := 2) (by norm_num)
    rw [h2]
    exact iff_of_false not_lt_bot not_lt_bot
  | top => exact absurd rfl hv
  | coe r =>
    have h2 : (2 : EReal) = ((2 : ℝ) : EReal) := rfl
    rw [h2, ← EReal.coe_mul, EReal.coe_lt_coe_iff, EReal.coe_lt_coe_iff]
    constructor <;> intro h <;> linarith

/-- Of a row's entries, doubled, that are at most `θ`: how many exceed the first threshold undoubled, -/
def near (x : ι → EReal) (θ : EReal) : EReal := ∑ i, if 2 * x i ≤ θ ∧ first x < x i then 1 else 0

/-- and how many exceed `θ` less a quarter of the inverse square of `K`. -/
def close (x : ι → EReal) (θ K : EReal) : EReal :=
  ∑ i, if 2 * x i ≤ θ ∧ θ - Ideal.div ((1 / 4 : ℝ) : EReal) (K * K) < 2 * x i then 1 else 0

theorem between_coe (t τ : ℝ) :
    (∑ i, if x i ≤ (τ : EReal) ∧ (t : EReal) < x i then (1 : EReal) else 0) = (((between x t τ).card : ℝ) : EReal) := by
  rw [← Finset.sum_filter, show ((between x t τ).card : ℝ) = ∑ i ∈ between x t τ, (1 : ℝ) by simp, coe_sum]
  rfl

theorem two_mul_le (hx : ∀ i, x i ≠ ⊤) (τ : ℝ) (i : ι) : 2 * x i ≤ ((2 * τ : ℝ) : EReal) ↔ x i ≤ (τ : EReal) := by
  rw [← not_lt, lt_two_mul (hx i), not_lt]

theorem near_coe (hx : ∀ i, x i ≠ ⊤) {t : ℝ} (ht : first x = t) (τ : ℝ) :
    near x ((2 * τ : ℝ) : EReal) = (((between x t τ).card : ℝ) : EReal) := by
  rw [near, ← between_coe]
  exact Finset.sum_congr rfl fun i _ => if_congr (by rw [two_mul_le hx, ht]) rfl rfl

theorem close_coe (hx : ∀ i, x i ≠ ⊤) (τ : ℝ) {K : ℝ} (hK : K ≠ 0) :
    close x ((2 * τ : ℝ) : EReal) K = (((between x (τ - 1 / 8 / K ^ 2) τ).card : ℝ) : EReal) := by
  have he : ((2 * τ : ℝ) : EReal) - Ideal.div ((1 / 4 : ℝ) : EReal) ((K : EReal) * K) = ((2 * (τ - 1 / 8 / K ^ 2) : ℝ) : EReal) := by
    rw [← EReal.coe_mul, div_real _ (mul_ne_zero hK hK), ← EReal.coe_sub, EReal.coe_eq_coe_iff]
    field_simp
    ring
  rw [close, ← between_coe, he]
  exact Finset.sum_congr rfl fun i _ => if_congr (by rw [two_mul_le hx, lt_two_mul (hx i)]) rfl rfl

/-- The last threshold of a row of at most 32768 entries with a real greatest entry, of which at most 23 lie between the
    first threshold and the root, or at most 7 close below the root: a real number that the entries above it exceed by a
    half in all. -/
theorem last_real (hn : Fintype.card ι ≤ 32768) (htop : Finset.univ.sup x ≠ ⊤) (hbot : Finset.univ.sup x ≠ ⊥)
    (hc : ∀ τ : ℝ, gap x τ = 0 →
      near x ((2 * τ : ℝ) : EReal) ≤ 23 ∨ close x ((2 * τ : ℝ) : EReal) (((above x τ).card : ℝ) : EReal) ≤ 7) :
    ∃ τ : ℝ, last x = τ ∧ gap x τ = 0 := by
  have hx : ∀ i, x i ≠ ⊤ := fun i h => htop (top_le_iff.mp (h ▸ Finset.le_sup (f := x) (Finset.mem_univ i)))
  obtain ⟨M, hM⟩ : ∃ M : ℝ, Finset.univ.sup x = M := ⟨_, (EReal.coe_toReal htop hbot).symm⟩
  have hne : (Finset.univ : Finset ι).Nonempty := by
    by_contra hn
    rw [Finset.not_nonempty_iff_eq_empty] at hn
    exact hbot (by rw [hn, Finset.sup_empty])
  obtain ⟨a, -, ha⟩ := Finset.exists_mem_eq_sup Finset.univ hne x
  have hf : first x = ((M - 1 / 2 : ℝ) : EReal) := by rw [first, hM, ← EReal.coe_sub]
  have h0 := gap_start hx (ha.symm.trans hM)
  refine ⟨(nxt x)^[24] (M - 1 / 2), by rw [last, hf, iterate_coe hx h0], ?_⟩
  obtain ⟨τ, hg, hτ⟩ := exists_root hx h0
  have hnat : ∀ a b : ℕ, (((a : ℝ) : EReal) ≤ ((b : ℝ) : EReal)) → a ≤ b := fun a b h => by
    exact_mod_cast EReal.coe_le_coe_iff.mp h
  rcases hc τ hg with h | h
  · rw [near_coe hx hf] at h
    exact ends_near hx h0 hτ (hnat _ 23 h)
  · rw [close_coe hx τ (card_pos_of_gap hg.ge).ne'] at h
    exact ends_close hx (fun i => hM ▸ Finset.le_sup (f := x) (Finset.mem_univ i)) h0 hg hτ hn (hnat _ 7 h)

/-- Twice the part of an entry above a real threshold is the part of twice the entry above twice the threshold. -/
theorem cut_eq (τ : ℝ) {v : EReal} (hv : v ≠ ⊤) : cut τ v = max (2 * v - ((2 * τ : ℝ) : EReal)) 0 := by
  induction v with
  | bot =>
    have h2 : (2 : EReal) * ⊥ = ⊥ := EReal.coe_mul_bot_of_pos (x := 2) (by norm_num)
    rw [cut, h2, EReal.bot_sub, EReal.bot_sub, max_eq_right bot_le, mul_zero]
  | top => exact absurd rfl hv
  | coe r =>
    have h2 : (2 : EReal) = ((2 : ℝ) : EReal) := rfl
    rw [cut, h2, ← EReal.coe_mul, ← EReal.coe_sub, ← EReal.coe_sub, ← EReal.coe_zero, ← EReal.coe_strictMono.monotone.map_max,
      ← EReal.coe_strictMono.monotone.map_max, ← EReal.coe_mul, EReal.coe_eq_coe_iff, mul_max_of_nonneg _ _ (by norm_num : (0 : ℝ) ≤ 2), mul_sub, mul_zero]

end Kernel

section Reference
variable {n : ℕ}

/-- The running sum of a row. -/
def csum (s : Fin n → EReal) (k : Fin n) : EReal := ∑ j, if j ≤ k then s j else 0

/-- One where the reference keeps a sorted entry, zero elsewhere. -/
def check (s : Fin n → EReal) (k : Fin n) : EReal := if csum s k < 1 + (1 + ((k.val : ℝ) : EReal)) * s k then 1 else 0

/-- The reference's threshold, from the sorted row. -/
def tau (s : Fin n → EReal) : EReal := Ideal.div ((∑ k, check s k * s k) - 1) (∑ k, check s k)

variable {x : Fin n → EReal} {σ : Fin n → Fin n}

/-- Over the reals: among sorted numbers `y` of which those in `P` — the first ones, and the only ones above `τ` — exceed
    `τ` by a half in all, the `k`-th is in `P` exactly when those up to it exceed it by less than a half in all. -/
theorem kept_iff {y : Fin n → ℝ} {P : Finset (Fin n)} {τ : ℝ} {k : Fin n} (hanti : ∀ j ≤ k, y k ≤ y j)
    (hP : ∀ j ∈ P, τ < y j) (hPk : ∀ j ≤ k, j ∉ P → y j ≤ τ) (hlt : k ∉ P → ∀ j ∈ P, j ≤ k)
    (hlow : k ∈ P → ∀ j ≤ k, j ∈ P) (hsum : ∑ j ∈ P, (y j - τ) = 1 / 2) :
    ∑ j ∈ Finset.Iic k, (y j - y k) < 1 / 2 ↔ k ∈ P := by
  constructor
  · intro h
    by_contra hk
    have hsub : P ⊆ Finset.Iic k := fun j hj => Finset.mem_Iic.mpr (hlt hk j hj)
    have h1 : ∑ j ∈ P, (y j - y k) ≤ ∑ j ∈ Finset.Iic k, (y j - y k) :=
      Finset.sum_le_sum_of_subset_of_nonneg hsub fun j hj _ => sub_nonneg.mpr (hanti j (Finset.mem_Iic.mp hj))
    have h2 : ∑ j ∈ P, (y j - τ) ≤ ∑ j ∈ P, (y j - y k) :=
      Finset.sum_le_sum fun j _ => by linarith [hPk k le_rfl hk]
    linarith
  · intro hk
    have hsub : Finset.Iic k ⊆ P := fun j hj => hlow hk j (Finset.mem_Iic.mp hj)
    have h1 : ∑ j ∈ Finset.Iic k, (y j - y k) < ∑ j ∈ Finset.Iic k, (y j - τ) :=
      Finset.sum_lt_sum_of_nonempty ⟨k, Finset.mem_Iic.mpr le_rfl⟩ fun j _ => by linarith [hP k hk]
    have h2 : ∑ j ∈ Finset.Iic k, (y j - τ) ≤ ∑ j ∈ P, (y j - τ) :=
      Finset.sum_le_sum_of_subset_of_nonneg hsub fun j hj _ => (sub_pos.mpr (hP j hj)).le
    linarith

/-- The sorted row, doubled. -/
def sorted (x : Fin n → EReal) (σ : Fin n → Fin n) (k : Fin n) : EReal := 2 * x (σ k)

/-- The reference keeps exactly the entries above twice the kernel's threshold. -/
theorem check_iff (hx : ∀ i, x i ≠ ⊤) (hσ : Function.Bijective σ) (hanti : ∀ i j, i ≤ j → x (σ j) ≤ x (σ i)) {τ : ℝ}
    (hg : gap x τ = 0) (k : Fin n) :
    csum (sorted x σ) k < 1 + (1 + ((k.val : ℝ) : EReal)) * sorted x σ k ↔ (τ : EReal) < x (σ k) := by
  have hone : (1 : EReal) + ((k.val : ℝ) : EReal) = ((1 + k.val : ℝ) : EReal) := by rw [EReal.coe_add, EReal.coe_one]
  have h2 : (2 : EReal) = ((2 : ℝ) : EReal) := rfl
  by_cases hb : x (σ k) = ⊥
  · have h2b : (2 : EReal) * ⊥ = ⊥ := EReal.coe_mul_bot_of_pos (x := 2) (by norm_num)
    have hpos : (0 : ℝ) < 1 + k.val := by positivity
    rw [sorted, hb, h2b, hone, EReal.coe_mul_bot_of_pos hpos, EReal.add_bot]
    exact iff_of_false not_lt_bot not_lt_bot
  -- up to `k`, the entries are real
  have hreal : ∀ j ≤ k, x (σ j) = ((x (σ j)).toReal : EReal) := fun j hj =>
    (EReal.coe_toReal (hx _) fun h => hb (le_bot_iff.mp (h ▸ hanti j k hj))).symm
  set y : Fin n → ℝ := fun j => (x (σ j)).toReal with hy
  set P : Finset (Fin n) := Finset.univ.filter fun j => (τ : EReal) < x (σ j) with hPdef
  have hmem : ∀ j, j ∈ P ↔ (τ : EReal) < x (σ j) := fun j => by simp [hPdef]
  have hsumP : ∑ j ∈ P, (y j - τ) = 1 / 2 := by
    have : ∑ j ∈ P, (y j - τ) = ∑ i ∈ above x τ, ((x i).toReal - τ) :=
      Finset.sum_bij (fun j _ => σ j) (fun j hj => mem_above.mpr ((hmem j).mp hj)) (fun a _ b _ h => hσ.1 h)
        (fun i hi => by
          obtain ⟨j, rfl⟩ := hσ.2 i
          exact ⟨j, (hmem j).mpr (mem_above.mp hi), rfl⟩) (fun _ _ => rfl)
    rw [gap] at hg
    linarith
  have hcs : csum (sorted x σ) k = ((∑ j ∈ Finset.Iic k, 2 * y j : ℝ) : EReal) := by
    rw [csum, ← Finset.sum_filter, coe_sum]
    refine Finset.sum_congr (by ext j; simp) fun j hj => ?_
    rw [sorted, hreal j (Finset.mem_Iic.mp hj), h2, ← EReal.coe_mul]
  have hcard : (Finset.Iic k).card = k.val + 1 := by simp
  have hrw : ∑ j ∈ Finset.Iic k, (y j - y k) = (∑ j ∈ Finset.Iic k, 2 * y j) / 2 - (1 + k.val) * y k := by
    rw [Finset.sum_sub_distrib, Finset.sum_const, hcard, nsmul_eq_mul, ← Finset.mul_sum]
    push_cast
    ring
  have hrhs : (1 : EReal) + (1 + ((k.val : ℝ) : EReal)) * sorted x σ k = ((1 + (1 + k.val) * (2 * y k) : ℝ) : EReal) := by
    rw [sorted, hreal k le_rfl, hone, h2, ← EReal.coe_mul, ← EReal.coe_mul, ← EReal.coe_one, ← EReal.coe_add]
  rw [hcs, hrhs, EReal.coe_lt_coe_iff, ← hmem k]
  refine Iff.trans ?_ (kept_iff (y := y) (P := P) (τ := τ) (k := k) ?_ ?_ ?_ ?_ ?_ hsumP)
  · rw [hrw]
    constructor <;> intro h <;> linarith
  · intro j hj
    exact EReal.toReal_le_toReal (hanti j k hj) hb (hx _)
  · intro j hj
    exact lt_toReal hx (mem_above.mpr ((hmem j).mp hj))
  · intro j hj hn
    have := (hmem j).not.mp hn
    rw [not_lt, hreal j hj] at this
    exact EReal.coe_le_coe_iff.mp this
  · intro hk j hj
    by_contra hle
    exact hk ((hmem k).mpr (lt_of_lt_of_le ((hmem j).mp hj) (hanti k j (le_of_lt (not_le.mp hle)))))
  · intro hk j hj
    exact (hmem j).mpr (lt_of_lt_of_le ((hmem k).mp hk) (hanti j k hj))

/-- So it keeps as many as there are above the kernel's threshold, -/
theorem kept_eq (hx : ∀ i, x i ≠ ⊤) (hσ : Function.Bijective σ) (hanti : ∀ i j, i ≤ j → x (σ j) ≤ x (σ i)) {τ : ℝ}
    (hg : gap x τ = 0) : ∑ k, check (sorted x σ) k = (((above x τ).card : ℝ) : EReal) := by
  rw [← count_coe, count, ← Equiv.sum_comp (Equiv.ofBijective σ hσ) fun i => if (τ : EReal) < x i then 1 else 0]
  exact Finset.sum_congr rfl fun k _ => if_congr (check_iff hx hσ hanti hg k) rfl rfl

/-- and its threshold is twice the kernel's. -/
theorem tau_eq (hx : ∀ i, x i ≠ ⊤) (hσ : Function.Bijective σ) (hanti : ∀ i j, i ≤ j → x (σ j) ≤ x (σ i)) {τ : ℝ}
    (hg : gap x τ = 0) : tau (sorted x σ) = ((2 * τ : ℝ) : EReal) := by
  have h2 : (2 : EReal) = ((2 : ℝ) : EReal) := rfl
  have hchk : ∀ k, check (sorted x σ) k = if (τ : EReal) < x (σ k) then 1 else 0 := fun k =>
    if_congr (check_iff hx hσ hanti hg k) rfl rfl
  have hcnt := kept_eq hx hσ hanti hg
  have htot : ∑ k, check (sorted x σ) k * sorted x σ k = ((∑ i ∈ above x τ, 2 * (x i).toReal : ℝ) : EReal) := by
    have : ∑ k, check (sorted x σ) k * sorted x σ k = ∑ i, if (τ : EReal) < x i then 2 * x i else 0 := by
      rw [← Equiv.sum_comp (Equiv.ofBijective σ hσ) fun i => if (τ : EReal) < x i then 2 * x i else 0]
      refine Finset.sum_congr rfl fun k _ => ?_
      rw [hchk k, ite_mul, one_mul, zero_mul]
      rfl
    rw [this, ← Finset.sum_filter, coe_sum]
    refine Finset.sum_congr rfl fun i hi => ?_
    conv_lhs => rw [← coe_toReal_of_mem hx hi]
    rw [h2, ← EReal.coe_mul]
  have hc := card_pos_of_gap hg.ge
  rw [tau, hcnt, htot, ← EReal.coe_one, ← EReal.coe_sub, div_real _ hc.ne', EReal.coe_eq_coe_iff, ← Finset.mul_sum,
    div_eq_iff hc.ne']
  rw [gap_eq] at hg
  linarith

/-- A row of nothing but `-∞` gives zeros at any threshold. -/
theorem cut_bot (t : EReal) : cut t ⊥ = 0 := by
  rw [cut, EReal.bot_sub, max_eq_right bot_le, mul_zero]

/-- THE ROW'S EQUATION: what the kernel makes of an entry is what the reference makes of it. `t` is the kernel's threshold,
    known only where the greatest entry is a real number. -/
theorem row_eq (hn : n ≤ 32768) (hσ : Function.Bijective σ) (hanti : ∀ i j, i ≤ j → x (σ j) ≤ x (σ i))
    (htop : Finset.univ.sup x ≠ ⊤)
    (hc : near x (tau (sorted x σ)) ≤ 23 ∨ close x (tau (sorted x σ)) (∑ k, check (sorted x σ) k) ≤ 7) {t : EReal} (ht : Finset.univ.sup x ≠ ⊥ → t = last x) (i : Fin n) :
    cut t (x i) = max (2 * x i - tau (sorted x σ)) 0 := by
  have hx : ∀ i, x i ≠ ⊤ := fun i h => htop (top_le_iff.mp (h ▸ Finset.le_sup (f := x) (Finset.mem_univ i)))
  by_cases hbot : Finset.univ.sup x = ⊥
  · have hi : x i = ⊥ := le_bot_iff.mp (hbot ▸ Finset.le_sup (f := x) (Finset.mem_univ i))
    have h2b : (2 : EReal) * ⊥ = ⊥ := EReal.coe_mul_bot_of_pos (x := 2) (by norm_num)
    rw [hi, cut_bot, h2b, EReal.bot_sub, max_eq_right bot_le]
  · obtain ⟨τ, hl, hg⟩ := last_real (by rwa [Fintype.card_fin]) htop hbot fun τ hg => by
      rwa [← tau_eq hx hσ hanti hg, ← kept_eq hx hσ hanti hg]
    rw [ht hbot, hl, cut_eq τ (hx i), tau_eq hx hσ hanti hg]

end Reference

end Cert.Proof.Row

end
-- ==== Proof.Block.lean ====
/-
  What one block of the kernel computes, at the extended reals: row by row, the strips' maxima make the row's greatest
  entry, the strips' masked sums make `Row.next`, and the loop — which stops for the whole block, when every row has
  stopped or after 24 steps — leaves each row with a real greatest entry at `Row.last`.
-/
module

public import proofs.«01_k».proof.Proof.Strips
public import proofs.«01_k».proof.Proof.Row
public import Idealize.ShloMosaic.Lib.Pointwise

@[expose] public section

set_option maxRecDepth 16384

noncomputable section

namespace Cert.Proof.Block

open Idealize.ShloMosaic Cert.Proof.Strips Cert.Proof.Row

/-- Row `p` of a block. -/
def row (x : FVec Ideal SB .f32) (p : Fin 32) : Fin 32768 → EReal := fun l => x (ix2 p l)

/-- The bit patterns the kernel writes its constants with. -/
theorem ofBits_half : Ideal.ofBits .f32 0x3F000000#32 = ((1 / 2 : ℝ) : EReal) := by
  simp [Ideal.ofBits, Ideal.ieee]
  rw [← EReal.coe_mul]
  norm_num

theorem ofBits_two : Ideal.ofBits .f32 0x40000000#32 = 2 := by
  simp [Ideal.ofBits, Ideal.ieee]
  norm_num
  rw [← EReal.coe_mul, show (2 : EReal) = ((2 : ℝ) : EReal) from rfl]
  norm_num

theorem ofBits_neg_inf : Ideal.ofBits .f32 0xFF800000#32 = ⊥ := by
  simp [Ideal.ofBits, Ideal.ieee]

/-- Strip `n` of a block, read at a lane. -/
theorem ldS_apply (x : FVec Ideal SB .f32) (n : ℕ) (h : n < 64) (p : Fin 32) (l : Fin 512) :
    ldS x n h (ix2 p l) = row x p (Fin.ofNat 32768 (512 * n + l.val)) := by
  unfold row
  show x _ = x _
  congr 1
  funext a
  match a with
  | ⟨0, _⟩ => exact Fin.ext (by show 0 + 1 * p.val = p.val; omega)
  | ⟨1, _⟩ => exact Fin.ext (by show 512 * n + 1 * l.val = (512 * n + l.val) % 32768; have := l.isLt; omega)

/-- The strips' maximum at a lane is at most `c` exactly when the strips' entries there are. -/
theorem maxV_le (x : FVec Ideal SB .f32) (p : Fin 32) (l : Fin 512) (c : EReal) : ∀ (k n : ℕ) (h : n + k ≤ 64)
    (acc : FVec Ideal SS .f32), maxV x k n h acc (ix2 p l) ≤ c ↔
      acc (ix2 p l) ≤ c ∧ ∀ j, n ≤ j → j < n + k → row x p (Fin.ofNat 32768 (512 * j + l.val)) ≤ c := by
  intro k
  induction k with
  | zero => exact fun n h acc => ⟨fun hc => ⟨hc, fun j h1 h2 => absurd h2 (by omega)⟩, fun hc => hc.1⟩
  | succ k ih =>
    intro n h acc
    rw [maxV, ih]
    have hm : maximumf acc (ldS x n (by omega)) (ix2 p l)
        = max (acc (ix2 p l)) (row x p (Fin.ofNat 32768 (512 * n + l.val))) := by
      rw [← ldS_apply x n (by omega) p l]; rfl
    rw [hm, max_le_iff]
    constructor
    · rintro ⟨⟨ha, hn⟩, hj⟩
      refine ⟨ha, fun j h1 h2 => ?_⟩
      rcases Nat.eq_or_lt_of_le h1 with rfl | h1
      · exact hn
      · exact hj j h1 (by omega)
    · rintro ⟨ha, hj⟩
      exact ⟨⟨ha, hj n le_rfl (by omega)⟩, fun j h1 h2 => hj j (by omega) (by omega)⟩

/-- Every lane of the row is a strip's. -/
theorem lane (i : Fin 32768) : ∃ (j : ℕ) (l : Fin 512), j < 64 ∧ Fin.ofNat 32768 (512 * j + l.val) = i := by
  refine ⟨i.val / 512, ⟨i.val % 512, Nat.mod_lt _ (by decide)⟩, by have := i.isLt; omega, Fin.ext ?_⟩
  show (512 * (i.val / 512) + i.val % 512) % 32768 = i.val
  have := i.isLt
  omega

/-- A sum over the lanes, strip by strip. -/
theorem sum_lanes (f : Fin 32768 → EReal) :
    ∑ l : Fin 512, ∑ j ∈ Finset.range 64, f (Fin.ofNat 32768 (512 * j + l.val)) = ∑ i, f i := by
  have h : ∀ l : Fin 512, ∑ j ∈ Finset.range 64, f (Fin.ofNat 32768 (512 * j + l.val))
      = ∑ j : Fin 64, f (Fin.ofNat 32768 (512 * j.val + l.val)) := fun l =>
    Finset.sum_range fun j => f (Fin.ofNat 32768 (512 * j + l.val))
  simp only [h]
  rw [Finset.sum_comm, ← Fintype.sum_prod_type' fun (j : Fin 64) (l : Fin 512) => f (Fin.ofNat 32768 (512 * j.val + l.val))]
  refine Fintype.sum_equiv (finProdFinEquiv (m := 64) (n := 512)) _ f fun q => congrArg f (Fin.ext ?_)
  show (512 * q.1.val + q.2.val) % 32768 = q.2.val + 512 * q.1.val
  have h1 := q.1.isLt
  have h2 := q.2.isLt
  omega

/-- The first threshold of a row. -/
theorem startV_apply (x : FVec Ideal SB .f32) (p : Fin 32) : startV x (ix2 p 0) = first (row x p) := by
  have hred : ∀ acc : FVec Ideal SS .f32, startOf acc (ix2 p 0)
      = (Finset.univ : Finset (Fin 512)).fold max ⊥ (fun l => acc (ix2 p l)) - ((1 / 2 : ℝ) : EReal) := fun acc => by
    unfold startOf
    pointwise
    rw [ofBits_half, ofBits_neg_inf]
  rw [startV, hred, first]
  refine congrArg (· - ((1 / 2 : ℝ) : EReal)) (eq_of_forall_ge_iff fun c => ?_)
  rw [Finset.fold_max_le, Finset.sup_le_iff]
  simp only [maxV_le]
  constructor
  · rintro ⟨-, h⟩ i -
    obtain ⟨j, l, hj, rfl⟩ := lane i
    exact (h l (Finset.mem_univ l)).2 j (Nat.zero_le j) (by omega)
  · intro h
    refine ⟨bot_le, fun l _ => ⟨?_, fun j _ _ => h _ (Finset.mem_univ _)⟩⟩
    show Ideal.ofBits .f32 0xFF800000#32 ≤ c
    rw [ofBits_neg_inf]
    exact bot_le

/-- Where a strip exceeds its row's threshold, one entry. -/
theorem above_apply (t : FVec Ideal SC .f32) (v : FVec Ideal SS .f32) (p : Fin 32) (l : Fin 512) :
    above t v (ix2 p l) = BitVec.ofBool (decide (t (ix2 p 0) < v (ix2 p l))) := by
  unfold above
  pointwise

/-- The running sum and count at a lane. -/
theorem accV_apply (x : FVec Ideal SB .f32) (t : FVec Ideal SC .f32) (p : Fin 32) (l : Fin 512) : ∀ (k n : ℕ)
    (h : n + k ≤ 64) (a : FVec Ideal SS .f32 × FVec Ideal SS .f32),
    (accV x t k n h a).1 (ix2 p l) = a.1 (ix2 p l) + (∑ j ∈ Finset.range k,
        if t (ix2 p 0) < row x p (Fin.ofNat 32768 (512 * (n + j) + l.val))
          then row x p (Fin.ofNat 32768 (512 * (n + j) + l.val)) else 0)
    ∧ (accV x t k n h a).2 (ix2 p l) = a.2 (ix2 p l) + (∑ j ∈ Finset.range k,
        if t (ix2 p 0) < row x p (Fin.ofNat 32768 (512 * (n + j) + l.val)) then 1 else 0) := by
  intro k
  induction k with
  | zero => exact fun n h a => ⟨by simp [accV], by simp [accV]⟩
  | succ k ih =>
    intro n h a
    have hs : ∀ v : FVec Ideal SS .f32, addSum t a.1 v (ix2 p l)
        = a.1 (ix2 p l) + if t (ix2 p 0) < v (ix2 p l) then v (ix2 p l) else 0 := fun v => by
      unfold addSum
      pointwise
      rw [above_apply]
      by_cases hv : t (ix2 p 0) < v (ix2 p l) <;> simp [hv, Scalar.select]
    have hc : ∀ v : FVec Ideal SS .f32, addCnt t a.2 v (ix2 p l)
        = a.2 (ix2 p l) + if t (ix2 p 0) < v (ix2 p l) then 1 else 0 := fun v => by
      unfold addCnt
      pointwise
      rw [above_apply]
      by_cases hv : t (ix2 p 0) < v (ix2 p l) <;> simp [hv, Scalar.select]
    have hn : ∀ j, n + 1 + j = n + (j + 1) := fun j => by omega
    obtain ⟨h1, h2⟩ := ih (n + 1) (by omega) (addSum t a.1 (ldS x n (by omega)), addCnt t a.2 (ldS x n (by omega)))
    have hl := ldS_apply x n (by omega) p l
    have hs' := hs (ldS x n (by omega))
    have hc' := hc (ldS x n (by omega))
    rw [hl] at hs' hc'
    rw [accV, h1, h2]
    dsimp only
    rw [hs', hc']
    simp only [hn, Finset.sum_range_succ' _ k, add_zero]
    exact ⟨by rw [add_assoc, add_comm (ite _ _ _)], by rw [add_assoc, add_comm (ite _ _ _)]⟩

/-- One step of a row. -/
theorem stepV_apply (x : FVec Ideal SB .f32) (t : FVec Ideal SC .f32) (p : Fin 32) :
    stepV x t (ix2 p 0) = next (row x p) (t (ix2 p 0)) := by
  have hred : ∀ a : FVec Ideal SS .f32 × FVec Ideal SS .f32, nextOf a (ix2 p 0)
      = Ideal.div ((∑ l : Fin 512, a.1 (ix2 p l)) - ((1 / 2 : ℝ) : EReal)) (∑ l : Fin 512, a.2 (ix2 p l)) := fun a => by
    unfold nextOf
    pointwise
    rw [ofBits_half]
  have hz : ∀ l : Fin 512, zeroS (F := Ideal) (ix2 p l) = 0 := fun l => by
    unfold zeroS
    pointwise
  rw [stepV, hred, next, total, Row.count]
  simp only [(accV_apply x t p _ 64 0 _ _).1, (accV_apply x t p _ 64 0 _ _).2, hz, zero_add]
  rw [sum_lanes fun i => if t (ix2 p 0) < row x p i then row x p i else 0,
    sum_lanes fun i => if t (ix2 p 0) < row x p i then 1 else 0]

/-- Where the loop's test does not say that some row's threshold moved, no row's did. -/
theorem moved_zero (tp t : FVec Ideal SC .f32) (h : moved tp t ≠ 1#1) (p : Fin 32) : tp (ix2 p 0) = t (ix2 p 0) := by
  by_contra hne
  refine h ?_
  unfold moved
  pointwise
  rw [decide_eq_true ((Finset.lt_fold_max _).mpr (.inr ⟨(p, 0), Finset.mem_univ _, ?_⟩))]
  · rfl
  · rw [if_pos hne]
    exact zero_lt_one

/-- The loop leaves each row where its remaining steps would: it stops early only when no row's threshold moves. -/
theorem loopV_apply (x : FVec Ideal SB .f32) (p : Fin 32) : ∀ (k j : ℕ), j + k = 24 → ∀ tp t : FVec Ideal SC .f32,
    (tp (ix2 p 0) = t (ix2 p 0) → next (row x p) (t (ix2 p 0)) = t (ix2 p 0)) →
    (loopV x k (BitVec.ofNat 32 j) tp t).2.2 (ix2 p 0) = (next (row x p))^[k] (t (ix2 p 0)) := by
  intro k
  induction k with
  | zero => exact fun j _ tp t _ => rfl
  | succ k ih =>
    intro j hj tp t hfix
    rw [loopV]
    by_cases ht : test (BitVec.ofNat 32 j) tp t = 1#1
    · rw [if_pos ht, count_succ, ih (j + 1) (by omega), stepV_apply, Function.iterate_succ_apply]
      intro he
      rw [stepV_apply] at he ⊢
      rw [← he, ← he]
    · rw [if_neg ht]
      have hs : Scalar.cmpi .slt (BitVec.ofNat 32 j) 24#32 = 1#1 := by
        have hj' : j < 24 := by omega
        interval_cases j <;> rfl
      have hm : moved tp t ≠ 1#1 := fun hm => ht (by rw [test, hs, hm]; rfl)
      exact (Function.iterate_fixed (hfix (moved_zero tp t hm p)) (k + 1)).symm

/-- The last threshold of a row whose greatest entry is real. -/
theorem lastV_apply (x : FVec Ideal SB .f32) (p : Fin 32) (htop : Finset.univ.sup (row x p) ≠ ⊤)
    (hbot : Finset.univ.sup (row x p) ≠ ⊥) : lastV x (ix2 p 0) = last (row x p) := by
  rw [lastV, loopV_apply x p 24 0 (by omega), startV_apply, last]
  intro he
  have hp : prevOf (startV x) (ix2 p 0) = startV x (ix2 p 0) - 1 := by
    unfold prevOf
    pointwise
  rw [hp, startV_apply, first] at he
  generalize Finset.univ.sup (row x p) = m at he htop hbot
  induction m with
  | bot => exact absurd rfl hbot
  | top => exact absurd rfl htop
  | coe m =>
    rw [← EReal.coe_sub, ← EReal.coe_one, ← EReal.coe_sub, EReal.coe_eq_coe_iff] at he
    linarith

/-- A result entry is twice the part of the block's above its row's last threshold. -/
theorem outV_apply (x : FVec Ideal SB .f32) (p : Fin 32) (l : Fin 32768) :
    outV x (ix2 p l) = cut (lastV x (ix2 p 0)) (row x p l) := by
  have hr : rowOf (ix2 p l) = ix2 p 0 := by
    funext a
    match a with
    | ⟨0, _⟩ => rfl
    | ⟨1, _⟩ => rfl
  show Ideal.ofBits .f32 0x40000000#32 * max (x (ix2 p l) - lastV x (rowOf (ix2 p l))) (Ideal.ofBits .f32 0x00000000#32) = _
  rw [hr, ofBits_two, Ideal.ofBits_zero_f32]
  rfl

end Cert.Proof.Block

end
-- ==== Proof.Reference.lean ====
/-
  What the reference computes, at the extended reals, read at an entry: its row is twice the argument's, sorted downwards;
  the running sums, the flags, the threshold and the result are `Row`'s.
-/
module

public import proofs.«01_k».proof.Proof.Gen.ReferenceIdeal.Run
public import proofs.«01_k».proof.Proof.Prefix
public import proofs.«01_k».proof.Proof.Block
public import Idealize.ShloMosaic.Lib.SortFacts

@[expose] public section

noncomputable section

namespace Cert.ReferenceIdeal.Body

open Cert.ReferenceIdeal Cert.ReferenceIdeal.Gen Idealize.ShloMosaic Idealize.ShloMosaic.TcCoe Idealize.SL.Sem
open Cert.Proof Cert.Proof.Row

/-- Row `r` of the argument. -/
def arow (x : FVec Ideal S128x32768 .f32) (r : Fin 128) : Fin 32768 → EReal := fun l => x (ix2 r l)

/-! ## The stages -/

/-- Twice the argument. -/
def dbl (x : FVec Ideal S128x32768 .f32) : FVec Ideal S128x32768 .f32 :=
  mulf (broadcastInDim S128x32768 ![] bcast_S_S128x32768 (constant S_ .f32 0x40000000#32)) x

/-- Its rows sorted downwards. -/
def desc (x : FVec Ideal S128x32768 .f32) : FVec Ideal S128x32768 .f32 :=
  Host.negf (Host.sort S128x32768 1 comparator_f32_d1 (Host.negf (dbl x)))

/-- Running sums. -/
def sums (z : FVec Ideal S128x32768 .f32) : FVec Ideal S128x32768 .f32 :=
  Host.reduceWindowAdd ![1, 32768] ![1, 1] ![0, 32767] ![0, 0] z (broadcastInDim S_ ![] bcast_S_S_ (constant S_ .f32 0x00000000#32))
    reduceWindows_S128x32768_S128x32768_w1s1p0_0_w32768s1p32767_0 h_S_

/-- The places, counted from one. -/
def places : FVec Ideal S128x32768 .f32 :=
  broadcastInDim S128x32768 ![0, 1] bcast_S1x32768_S128x32768_0_1 (broadcastInDim S1x32768 ![1] bcast_S32768_S1x32768_1
    (addf (broadcastInDim S32768 ![] bcast_S_S32768 (constant S_ .f32 0x3F800000#32)) (sitofp .f32 (iotaInDim S32768 32 0))))

/-- One at the entries kept, zero elsewhere. -/
def flags (z : FVec Ideal S128x32768 .f32) : FVec Ideal S128x32768 .f32 :=
  uitofp .f32 (cmpf .ogt (addf (broadcastInDim S128x32768 ![] bcast_S_S128x32768 (constant S_ .f32 0x3F800000#32)) (mulf places z)) (sums z))

/-- The rows' thresholds. -/
def taus (z : FVec Ideal S128x32768 .f32) : FVec Ideal S128 .f32 :=
  Host.divf (subf (Host.reduceAdd (mulf (flags z) z) (constant S_ .f32 0x00000000#32) reducesTo_S128x32768_S128_d1 h_S_)
      (broadcastInDim S128 ![] bcast_S_S128 (constant S_ .f32 0x3F800000#32)))
    (Host.reduceAdd (flags z) (constant S_ .f32 0x00000000#32) reducesTo_S128x32768_S128_d1 h_S_)

/-- The result. -/
def refV (x : FVec Ideal S128x32768 .f32) : FVec Ideal S128x32768 .f32 :=
  maximumf (subf (dbl x) (broadcastInDim S128x32768 ![0, 1] bcast_S128x1_S128x32768_0_1 (broadcastInDim S128x1 ![0] bcast_S128_S128x1_0
    (taus (desc x))))) (broadcastInDim S128x32768 ![] bcast_S_S128x32768 (constant S_ .f32 0x00000000#32))

/-! ## Their readings -/

theorem dbl_apply (x : FVec Ideal S128x32768 .f32) (r : Fin 128) (l : Fin 32768) : dbl x (ix2 r l) = 2 * arow x r l := by
  unfold dbl arow
  pointwise
  rw [Block.ofBits_two]

/-- The order the sort sorts by is the usual one. -/
theorem comparator_eq (a b : EReal) : comparator_f32_d1 (F := Ideal) a b = BitVec.ofBool (decide (a < b)) := by
  have hsel : ∀ c : EReal, Scalar.select (Ideal.cmp .une c c) (Ideal.ofBits .f32 0x7FC00000#32)
      (Scalar.select (Ideal.cmp .oeq c (Ideal.ofBits .f32 0x00000000#32)) (Ideal.ofBits .f32 0x00000000#32) c) = c := by
    intro c
    rw [Ideal.ofBits_zero_f32]
    by_cases hc : c = 0 <;> simp [Ideal.cmp, Scalar.select, hc]
  show Ideal.cmp .olt (Scalar.select (Ideal.cmp .une a a) (Ideal.ofBits .f32 0x7FC00000#32) (Scalar.select (Ideal.cmp .oeq a (Ideal.ofBits .f32 0x00000000#32)) (Ideal.ofBits .f32 0x00000000#32) a))
    (Scalar.select (Ideal.cmp .une b b) (Ideal.ofBits .f32 0x7FC00000#32) (Scalar.select (Ideal.cmp .oeq b (Ideal.ofBits .f32 0x00000000#32)) (Ideal.ofBits .f32 0x00000000#32) b)) = _
  rw [hsel, hsel]
  rfl

/-- Whether place `k`'s entry is to come before place `k'`'s. -/
def before (x : Fin 32768 → EReal) (k k' : Fin 32768) : Bool := decide (-(2 * x k) < -(2 * x k'))

/-- The place a sorted row's place is taken from. -/
def perm (x : Fin 32768 → EReal) : Fin 32768 → Fin 32768 := sortedFrom (before x)

theorem perm_bijective (x : Fin 32768 → EReal) : Function.Bijective (perm x) :=
  ⟨sortedFrom_injective _, sortedFrom_surjective _⟩

/-- Doubling keeps the order both ways. -/
theorem le_of_two_mul {a b : EReal} (h : 2 * a ≤ 2 * b) : a ≤ b := by
  have hh : ∀ c : EReal, ((1 / 2 : ℝ) : EReal) * (2 * c) = c := fun c => by
    rw [← mul_assoc, show (2 : EReal) = ((2 : ℝ) : EReal) from rfl, ← EReal.coe_mul]
    norm_num
  rw [← hh a, ← hh b]
  exact mul_le_mul_of_nonneg_left h (by exact_mod_cast (by norm_num : (0 : ℝ) ≤ 1 / 2))

theorem perm_anti (x : Fin 32768 → EReal) (i j : Fin 32768) (hij : i ≤ j) : x (perm x j) ≤ x (perm x i) := by
  rcases hij.eq_or_lt with rfl | hij
  · exact le_rfl
  · have h := sortedFrom_noInversion (before x) (before x)
      (fun a b hab => decide_eq_false (lt_asymm (of_decide_eq_true hab)))
      (fun a b hab => hab)
      (fun a b c hab hbc => decide_eq_false (not_lt.2 ((not_lt.1 (of_decide_eq_false hbc)).trans (not_lt.1 (of_decide_eq_false hab))))) i j hij
    exact le_of_two_mul (EReal.neg_le_neg_iff.1 (not_lt.1 (of_decide_eq_false h)))

theorem desc_apply (x : FVec Ideal S128x32768 .f32) (r : Fin 128) (l : Fin 32768) :
    desc x (ix2 r l) = sorted (arow x r) (perm (arow x r)) l := by
  have hal : ∀ k : Fin 32768, (ix2 r l : S128x32768.Idx).along 1 k = ix2 r k := fun k => by
    funext a
    match a with
    | ⟨0, _⟩ => rfl
    | ⟨1, _⟩ => rfl
  have hkey : ∀ k : Fin 32768, Host.negf (dbl x) (ix2 r k) = -(2 * arow x r k) := fun k => by
    rw [← dbl_apply]
    rfl
  have hb : (fun k k' : Fin 32768 => comparator_f32_d1 (F := Ideal) (Host.negf (dbl x) ((ix2 r l : S128x32768.Idx).along 1 k))
      (Host.negf (dbl x) ((ix2 r l : S128x32768.Idx).along 1 k')) == 1#1) = before (arow x r) := by
    funext k k'
    rw [hal, hal, hkey, hkey, comparator_eq, before]
    cases decide (-(2 * arow x r k) < -(2 * arow x r k')) <;> rfl
  refine (congrArg (fun f : Fin 32768 → Fin 32768 → Bool =>
    -(Host.negf (dbl x) ((ix2 r l : S128x32768.Idx).along 1 (sortedFrom f l)))) hb).trans ?_
  refine (congrArg (fun i => -(Host.negf (dbl x) i)) (hal _)).trans ?_
  exact (congrArg (fun v : EReal => -v) (hkey _)).trans (neg_neg _)

theorem sums_apply (z : FVec Ideal S128x32768 .f32) (r : Fin 128) (l : Fin 32768) : sums z (ix2 r l) = csum (arow z r) l := by
  have h := Prefix.reduceWindow_apply (R := 128) (N := 32768) (n := 32767) (by norm_num) z _ Ideal.ofBits_zero_f32
    reduceWindows_S128x32768_S128x32768_w1s1p0_0_w32768s1p32767_0 r l
  unfold sums Host.reduceWindowAdd csum arow
  rw [Ideal.hostReduceWindowAdd_def]
  exact h

theorem places_apply (r : Fin 128) (l : Fin 32768) : places (ix2 r l) = 1 + ((l.val : ℝ) : EReal) := by
  unfold places
  pointwise
  have hl : (BitVec.ofNat 32 l.val).toInt = (l.val : ℤ) := by
    have := l.isLt
    rw [BitVec.toInt_eq_toNat_of_lt (by rw [BitVec.toNat_ofNat]; omega), BitVec.toNat_ofNat, Nat.mod_eq_of_lt (by omega)]
  show 1 + (((BitVec.ofNat 32 l.val).toInt : ℝ) : EReal) = _
  rw [hl, Int.cast_natCast]

theorem flags_apply (z : FVec Ideal S128x32768 .f32) (r : Fin 128) (l : Fin 32768) : flags z (ix2 r l) = check (arow z r) l := by
  unfold flags
  pointwise
  rw [sums_apply, places_apply]
  have hb : ∀ P : Prop, ∀ _ : Decidable P, (FloatOps.uitofp .f32 (BitVec.ofBool (decide P)) : Ideal .f32) = if P then (1 : EReal) else 0 := by
    intro P _
    by_cases hP : P
    · rw [if_pos hP, decide_eq_true hP]
      show (((1#1 : BitVec 1).toNat : ℝ) : EReal) = 1
      simp
    · rw [if_neg hP, decide_eq_false hP]
      show (((0#1 : BitVec 1).toNat : ℝ) : EReal) = 0
      simp
  rw [hb]
  rfl

theorem taus_apply (z : FVec Ideal S128x32768 .f32) (r : Fin 128) : taus z (ix1 r) = tau (arow z r) := by
  unfold taus
  pointwise
  simp only [flags_apply]
  rfl

/-- The result, read at an entry. -/
theorem refV_apply (x : FVec Ideal S128x32768 .f32) (r : Fin 128) (l : Fin 32768) :
    refV x (ix2 r l) = max (2 * arow x r l - tau (sorted (arow x r) (perm (arow x r)))) 0 := by
  have hd : arow (desc x) r = sorted (arow x r) (perm (arow x r)) := funext fun k => desc_apply x r k
  unfold refV
  pointwise
  rw [dbl_apply, taus_apply, hd]

/-- THE RUN: every execution ends with the result's buffer holding `refV` of the argument and the argument as it was. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = refV (m ((c.tc : Thread nD τ).loc main_arg0))
      ∧ r.2.mem ((c.tc : Thread nD τ).loc main_arg0) = m ((c.tc : Thread nD τ).loc main_arg0) :=
  Value.run m ρ

end Cert.ReferenceIdeal.Body

end
-- ==== Proof.Precondition.lean ====
/-
  What the precondition says of a row: its greatest entry is not +∞, and of its entries that are, doubled, at most the
  reference's threshold, either at most 23 exceed the greatest less a half, or at most 7 are, doubled, within
  `1 / (4 K²)` of that threshold, `K` being how many entries the reference keeps.
-/
module

public import proofs.«01_k».proof.Pre_few_to_pass
public import proofs.«01_k».proof.Proof.Reference
public import Idealize.ShloMosaic.Lib.Pointwise

@[expose] public section

set_option maxRecDepth 16384

noncomputable section

namespace Cert.Proof.Precondition

open Idealize.ShloMosaic Cert.Pre_few_to_pass Cert.Pre_few_to_pass.Facts Cert.Proof.Row Cert.ReferenceIdeal.Body

theorem ofBits_inf : Ideal.ofBits .f32 0x7F800000#32 = ⊤ := by
  simp [Ideal.ofBits, Ideal.ieee]

theorem ofBits_23 : Ideal.ofBits .f32 0x41B80000#32 = 23 := by
  simp [Ideal.ofBits, Ideal.ieee]
  norm_num
  rw [← EReal.coe_mul, show (23 : EReal) = ((23 : ℝ) : EReal) from rfl]
  norm_num

theorem ofBits_7 : Ideal.ofBits .f32 0x40E00000#32 = 7 := by
  simp [Ideal.ofBits, Ideal.ieee]
  norm_num
  rw [← EReal.coe_mul, show (7 : EReal) = ((7 : ℝ) : EReal) from rfl]
  norm_num

theorem ofBits_quarter : Ideal.ofBits .f32 0x3E800000#32 = ((1 / 4 : ℝ) : EReal) := by
  simp [Ideal.ofBits, Ideal.ieee]
  norm_num
  rw [← EReal.coe_mul]
  norm_num

/-- Two conditions' flag is one where both hold and zero elsewhere. -/
theorem both_eq (P Q : Prop) [Decidable P] [Decidable Q] :
    (FloatOps.uitofp .f32 (IntOp.andi (BitVec.ofBool (decide P)) (BitVec.ofBool (decide Q))) : Ideal .f32)
      = if P ∧ Q then (1 : EReal) else 0 := by
  have h1 : (FloatOps.uitofp .f32 (1#1 : BitVec 1) : Ideal .f32) = (1 : EReal) := by
    show (((1#1 : BitVec 1).toNat : ℝ) : EReal) = 1
    simp
  have h0 : (FloatOps.uitofp .f32 (0#1 : BitVec 1) : Ideal .f32) = (0 : EReal) := by
    show (((0#1 : BitVec 1).toNat : ℝ) : EReal) = 0
    simp
  by_cases hP : P <;> by_cases hQ : Q <;> simp only [hP, hQ, decide_true, decide_false, and_true, and_false, if_true, if_false] <;>
    first | exact h1 | exact h0

variable [Cert.Pre_few_to_pass.Facts]

/-- The rows' greatest entries, as a column. -/
def tops (x : FVec Ideal S128x32768 .f32) : FVec Ideal S128x1 .f32 :=
  broadcastInDim S128x1 ![0] bcast_S128_S128x1_0
    (Host.reduce FloatOps.maximumf x (constant S_ .f32 0xFF800000#32) reducesTo_S128x32768_S128_d1 h_S_)

/-- Whether an entry is at most its row's number in `u`, -/
def dropped (u : FVec Ideal S128 .f32) (z : FVec Ideal S128x32768 .f32) : IVec S128x32768 1 :=
  cmpf .ole z (broadcastInDim S128x32768 ![0, 1] bcast_S128x1_S128x32768_0_1 (broadcastInDim S128x1 ![0] bcast_S128_S128x1_0 u))

/-- and how many entries it is so of, in each row, that exceed in `x` the row's number in `t` less a half, -/
def nears (t : FVec Ideal S128x1 .f32) (u : FVec Ideal S128 .f32) (x z : FVec Ideal S128x32768 .f32) : FVec Ideal S128 .f32 :=
  Host.reduceAdd (uitofp .f32 (andi (dropped u z) (cmpf .ogt x (broadcastInDim S128x32768 ![0, 1] bcast_S128x1_S128x32768_0_1
    (subf t (broadcastInDim S128x1 ![] bcast_S_S128x1 (constant S_ .f32 0x3F000000#32)))))))
    (constant S_ .f32 0x00000000#32) reducesTo_S128x32768_S128_d1 h_S_

/-- and how many that exceed in `z` the number in `u` less a quarter of the inverse square of the number in `k`. -/
def closes (k u : FVec Ideal S128 .f32) (z : FVec Ideal S128x32768 .f32) : FVec Ideal S128 .f32 :=
  Host.reduceAdd (uitofp .f32 (andi (dropped u z) (cmpf .ogt z (broadcastInDim S128x32768 ![0, 1] bcast_S128x1_S128x32768_0_1
    (broadcastInDim S128x1 ![0] bcast_S128_S128x1_0
      (subf u (Host.divf (broadcastInDim S128 ![] bcast_S_S128 (constant S_ .f32 0x3E800000#32)) (mulf k k))))))))
    (constant S_ .f32 0x00000000#32) reducesTo_S128x32768_S128_d1 h_S_

/-- How many entries of each row the reference keeps. -/
def kept (f : FVec Ideal S128x32768 .f32) : FVec Ideal S128 .f32 :=
  Host.reduceAdd f (constant S_ .f32 0x00000000#32) reducesTo_S128x32768_S128_d1 h_S_

/-- Whether a row's number in `t` is below +∞, -/
def below (t : FVec Ideal S128x1 .f32) : IVec S128 1 :=
  cmpf .olt (shapeCast S128 t shapeCasts_S128x1_S128) (broadcastInDim S128 ![] bcast_S_S128 (constant S_ .f32 0x7F800000#32))

/-- and whether a row's number in `a` is at most 23, or that in `b` at most 7. -/
def few (a b : FVec Ideal S128 .f32) : IVec S128 1 :=
  ori (cmpf .ole a (broadcastInDim S128 ![] bcast_S_S128 (constant S_ .f32 0x41B80000#32)))
    (cmpf .ole b (broadcastInDim S128 ![] bcast_S_S128 (constant S_ .f32 0x40E00000#32)))

theorem fn_eq (x : FVec Ideal S128x32768 .f32) :
    fn (F := Ideal) x = andi (below (tops x)) (few (nears (tops x) (taus (desc x)) x (dbl x))
      (closes (kept (flags (desc x))) (taus (desc x)) (dbl x))) := by
  unfold fn fn_part1 fn_part2 fn_sort fn_cumsum fn_cumsum_0 below few nears closes kept dropped tops taus flags sums places desc dbl
  rfl

theorem tops_apply (x : FVec Ideal S128x32768 .f32) (r : Fin 128) : tops x (ix2 r 0) = Finset.univ.sup (arow x r) := by
  unfold tops
  pointwise
  rw [Block.ofBits_neg_inf]
  refine eq_of_forall_ge_iff fun c => ?_
  rw [Finset.fold_max_le, Finset.sup_le_iff]
  exact ⟨fun h => h.2, fun h => ⟨bot_le, h⟩⟩

theorem nears_apply (t : FVec Ideal S128x1 .f32) (u : FVec Ideal S128 .f32) (x z : FVec Ideal S128x32768 .f32) (r : Fin 128) :
    nears t u x z (ix1 r)
      = ∑ l : Fin 32768, if z (ix2 r l) ≤ u (ix1 r) ∧ t (ix2 r 0) - ((1 / 2 : ℝ) : EReal) < x (ix2 r l) then (1 : EReal) else 0 := by
  unfold nears dropped
  pointwise
  simp only [Block.ofBits_half, both_eq]

theorem closes_apply (k u : FVec Ideal S128 .f32) (z : FVec Ideal S128x32768 .f32) (r : Fin 128) :
    closes k u z (ix1 r)
      = ∑ l : Fin 32768, if z (ix2 r l) ≤ u (ix1 r)
          ∧ u (ix1 r) - Ideal.div ((1 / 4 : ℝ) : EReal) (k (ix1 r) * k (ix1 r)) < z (ix2 r l) then (1 : EReal) else 0 := by
  unfold closes dropped
  pointwise
  simp only [ofBits_quarter, both_eq]

theorem kept_apply (f : FVec Ideal S128x32768 .f32) (r : Fin 128) : kept f (ix1 r) = ∑ l : Fin 32768, f (ix2 r l) := by
  unfold kept
  pointwise

theorem below_apply (t : FVec Ideal S128x1 .f32) (r : Fin 128) :
    below t (ix1 r) = BitVec.ofBool (decide (t (ix2 r 0) < ⊤)) := by
  unfold below
  pointwise
  rw [ofBits_inf]

theorem few_apply (a b : FVec Ideal S128 .f32) (r : Fin 128) :
    few a b (ix1 r) = IntOp.ori (BitVec.ofBool (decide (a (ix1 r) ≤ 23))) (BitVec.ofBool (decide (b (ix1 r) ≤ 7))) := by
  unfold few
  pointwise
  rw [ofBits_23, ofBits_7]

/-- The precondition, row by row. -/
theorem pre_row (x : FVec Ideal S128x32768 .f32) (h : fn (F := Ideal) x = fun _ => 1#1) (r : Fin 128) :
    Finset.univ.sup (arow x r) ≠ ⊤
      ∧ (near (arow x r) (tau (sorted (arow x r) (perm (arow x r)))) ≤ 23
        ∨ close (arow x r) (tau (sorted (arow x r) (perm (arow x r)))) (∑ k, check (sorted (arow x r) (perm (arow x r))) k) ≤ 7) := by
  have hd : arow (desc x) r = sorted (arow x r) (perm (arow x r)) := funext fun k => desc_apply x r k
  have hn : nears (tops x) (taus (desc x)) x (dbl x) (ix1 r) = near (arow x r) (tau (sorted (arow x r) (perm (arow x r)))) := by
    rw [nears_apply]
    simp only [tops_apply, taus_apply, hd, dbl_apply]
    rfl
  have hk : kept (flags (desc x)) (ix1 r) = ∑ k, check (sorted (arow x r) (perm (arow x r))) k := by
    rw [kept_apply]
    simp only [flags_apply, hd]
  have hc : closes (kept (flags (desc x))) (taus (desc x)) (dbl x) (ix1 r)
      = close (arow x r) (tau (sorted (arow x r) (perm (arow x r)))) (∑ k, check (sorted (arow x r) (perm (arow x r))) k) := by
    rw [closes_apply, hk]
    simp only [taus_apply, hd, dbl_apply]
    rfl
  have hr : IntOp.andi (below (tops x) (ix1 r)) (few (nears (tops x) (taus (desc x)) x (dbl x))
      (closes (kept (flags (desc x))) (taus (desc x)) (dbl x)) (ix1 r)) = 1#1 :=
    (congrFun (fn_eq x) (ix1 r)).symm.trans (congrFun h (ix1 r))
  rw [below_apply, few_apply, hn, hc, tops_apply] at hr
  have hbits : ∀ a b c : Bool, IntOp.andi (BitVec.ofBool a) (IntOp.ori (BitVec.ofBool b) (BitVec.ofBool c)) = 1#1 →
      a = true ∧ (b = true ∨ c = true) := by decide
  obtain ⟨h1, h2⟩ := hbits _ _ _ hr
  exact ⟨(of_decide_eq_true h1).ne, h2.imp of_decide_eq_true of_decide_eq_true⟩

end Cert.Proof.Precondition

end
-- ==== Proof.Equation.lean ====
/-
  The equation: where the precondition holds, the kernel's result array is the reference's, entry by entry.
-/
module

public import proofs.«01_k».proof.Proof.Whole
public import proofs.«01_k».proof.Proof.Reference
public import proofs.«01_k».proof.Proof.Precondition

@[expose] public section

noncomputable section

namespace Cert.Proof.Equation

open Idealize.ShloMosaic Cert.Proof.Strips Cert.Proof.Row Cert.ReferenceIdeal.Body

/-- The kernel's result at an entry of row `r` is cut at the last threshold of row `r`'s block there, which is the row's own
    last threshold where the row's greatest entry is real. -/
theorem whole_apply (x : FVec Ideal SA .f32) (r : Fin 128) (l : Fin 32768) (htop : Finset.univ.sup (arow x r) ≠ ⊤) :
    ∃ t : EReal, wholeV x (ix2 r l) = cut t (arow x r l) ∧ (Finset.univ.sup (arow x r) ≠ ⊥ → t = last (arow x r)) := by
  have hr := r.isLt
  let p : Fin 4 := ⟨r.val / 32, by omega⟩
  let q : Fin 32 := ⟨r.val % 32, Nat.mod_lt _ (by decide)⟩
  have hi : inArr p (ix2 q l) = ix2 r l := by
    funext a
    match a with
    | ⟨0, _⟩ => exact Fin.ext (by show 32 * (r.val / 32) + r.val % 32 = r.val; omega)
    | ⟨1, _⟩ => rfl
  have hrow : Block.row (blockOf x p) q = arow x r := by
    funext k
    refine congrArg x ?_
    funext a
    match a with
    | ⟨0, _⟩ => exact Fin.ext (by show 32 * (r.val / 32) + r.val % 32 = r.val; omega)
    | ⟨1, _⟩ => rfl
  refine ⟨lastV (blockOf x p) (ix2 q 0), ?_, fun hbot => ?_⟩
  · rw [← hi, wholeV_inArr, Block.outV_apply, hrow]
  · rw [Block.lastV_apply _ _ (by rwa [hrow]) (by rwa [hrow]), hrow]

variable [Cert.Pre_few_to_pass.Facts]

/-- THE EQUATION. -/
theorem whole_eq (x : FVec Ideal SA .f32) (h : Cert.Pre_few_to_pass.fn (F := Ideal) x = fun _ => 1#1) : wholeV x = refV x := by
  funext i
  obtain ⟨r, l, rfl⟩ : ∃ (r : Fin 128) (l : Fin 32768), i = ix2 r l := ⟨i 0, i 1, eq_ix2 i⟩
  obtain ⟨htop, hc⟩ := Precondition.pre_row x h r
  obtain ⟨t, hw, ht⟩ := whole_apply x r l htop
  rw [hw, refV_apply]
  exact row_eq le_rfl (perm_bijective _) (perm_anti _) htop hc ht l

end Cert.Proof.Equation

end
-- ==== Proof.lean ====
/-
  The claims, assembled: the three frames, and the kernel's and the reference's runs ending at the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal
public import proofs.«01_k».proof.Proof.Gen.Pre_few_to_pass
public import proofs.«01_k».proof.Proof.KernelRun
public import proofs.«01_k».proof.Proof.KernelIdealRun
public import proofs.«01_k».proof.Proof.KernelIdealValue
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Where the precondition holds, the kernel and the reference end with the same array. -/
theorem agree : Cert.algebraic_KernelIdeal_ReferenceIdeal_pre_few_to_pass (hKernelIdeal := Cert.KernelIdeal.Gen.facts)
    (hReferenceIdeal := Cert.ReferenceIdeal.Gen.facts) (hPre_few_to_pass := Cert.Pre_few_to_pass.Gen.facts) := by
  intro m g m' g' hpre hargs
  refine ⟨fun c => Strips.wholeV (F := Ideal) (m ((c.tc : Thread Cert.KernelIdeal.nD Cert.KernelIdeal.τ).loc Cert.KernelIdeal.main_arg0)),
    Cert.KernelIdeal.Body.ran m g, ?_⟩
  refine (θ_run _ _ _).mono (fun r h c => ⟨(h c).1.trans ?_, (h c).2⟩) (Cert.ReferenceIdeal.Body.ran m' g')
  exact (congrArg Cert.ReferenceIdeal.Body.refV (hargs c)).trans (Equation.whole_eq _ (hpre c)).symm

/-- Every claim. -/
theorem claim : Cert.Claim :=
  ⟨Cert.Kernel.Gen.facts, Cert.KernelIdeal.Gen.facts, Cert.ReferenceIdeal.Gen.facts, Cert.Pre_few_to_pass.Gen.facts,
    fun m g _ => Cert.Kernel.Body.framed m g, fun m g _ => Cert.KernelIdeal.Body.framed m g,
    fun m g _ => Cert.KernelIdeal.Body.framed m g, fun m g _ => Cert.ReferenceIdeal.Body.framed m g,
    fun m g _ => Cert.ReferenceIdeal.Body.framed m g, trivial, agree⟩

end Cert.Proof

end
